-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 8192]⟩ (Layout.meshBlock [2, 2, 2] ![[], [2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S256x512 : Shape := ⟨2, ![256, 512]⟩
abbrev S512x4096 : Shape := ⟨2, ![512, 4096]⟩
abbrev S_ : Shape := ⟨0, ![]⟩

class Facts : Prop where
  bcast_S_S256x512 : S_.BroadcastsInDim S256x512 (![] : Fin 0 → Fin S256x512.rank)
  bcast_S_S512x4096 : S_.BroadcastsInDim S512x4096 (![] : Fin 0 → Fin S512x4096.rank)

variable [Facts]

def fn {F : FTy → Type} [FloatOps F] (main_arg0 : FVec F S256x512 .f32) (main_arg1 : FVec F S512x4096 .f32) : IVec S256x512 1 × IVec S512x4096 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S512x4096 .f32 := Host.absf main_arg1
  let main_cst_0 : FVec F S_ .f32 := constant S_ .f32 0x7F800000#32
  let main_v4 : FVec F S512x4096 .f32 := broadcastInDim S512x4096 ![] bcast_S_S512x4096 main_cst_0
  let main_v5 : IVec S512x4096 1 := cmpf .olt main_v3 main_v4
  (main_v2, main_v5)
-- ==== Pre_finite_ReferenceIdeal.lean ====
abbrev S256x512 : Shape := ⟨2, ![256, 512]⟩
abbrev S512x8192 : Shape := ⟨2, ![512, 8192]⟩
abbrev S_ : Shape := ⟨0, ![]⟩

class Facts : Prop where
  bcast_S_S256x512 : S_.BroadcastsInDim S256x512 (![] : Fin 0 → Fin S256x512.rank)
  bcast_S_S512x8192 : S_.BroadcastsInDim S512x8192 (![] : Fin 0 → Fin S512x8192.rank)

variable [Facts]

def fn {F : FTy → Type} [FloatOps F] (main_arg0 : FVec F S256x512 .f32) (main_arg1 : FVec F S512x8192 .f32) : IVec S256x512 1 × IVec S512x8192 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S512x8192 .f32 := Host.absf main_arg1
  let main_cst_0 : FVec F S_ .f32 := constant S_ .f32 0x7F800000#32
  let main_v4 : FVec F S512x8192 .f32 := broadcastInDim S512x8192 ![] bcast_S_S512x8192 main_cst_0
  let main_v5 : IVec S512x8192 1 := cmpf .olt main_v3 main_v4
  (main_v2, main_v5)
-- ==== Kernel.lean ====
abbrev S256x512 : Shape := ⟨2, ![256, 512]⟩
abbrev S512x4096 : Shape := ⟨2, ![512, 4096]⟩
abbrev S256x8192 : Shape := ⟨2, ![256, 8192]⟩
abbrev S256x4096 : Shape := ⟨2, ![256, 4096]⟩
abbrev S256x896 : Shape := ⟨2, ![256, 896]⟩
abbrev S256x8 : Shape := ⟨2, ![256, 8]⟩
abbrev S7 : Shape := ⟨1, ![7]⟩
abbrev S2 : Shape := ⟨1, ![2]⟩
abbrev S4 : Shape := ⟨1, ![4]⟩
abbrev S_ : Shape := ⟨0, ![]⟩
abbrev S256 : Shape := ⟨1, ![256]⟩
abbrev S256x1 : Shape := ⟨2, ![256, 1]⟩
abbrev S1 : Shape := ⟨1, ![1]⟩
abbrev S256x128 : Shape := ⟨2, ![256, 128]⟩
abbrev S256x384 : Shape := ⟨2, ![256, 384]⟩

abbrev nBuf : Space → Nat
  | .hbm => 3
  | .vmem => 13
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256x8192, .f32⟩
  | .local _ .vmem, ⟨0, _⟩ => ⟨S256x512, .f32⟩
  | .local _ .vmem, ⟨1, _⟩ => ⟨S512x4096, .f32⟩
  | .local _ .vmem, ⟨2, _⟩ => ⟨S256x8192, .f32⟩
  | .local _ .vmem, ⟨3, _⟩ => ⟨S256x4096, .f32⟩
  | .local _ .vmem, ⟨4, _⟩ => ⟨S256x896, .f32⟩
  | .local _ .vmem, ⟨5, _⟩ => ⟨S256x512, .f32⟩
  | .local _ .vmem, ⟨6, _⟩ => ⟨S256x896, .f32⟩
  | .local _ .vmem, ⟨7, _⟩ => ⟨S256x512, .f32⟩
  | .local _ .vmem, ⟨8, _⟩ => ⟨S256x896, .f32⟩
  | .local _ .vmem, ⟨9, _⟩ => ⟨S256x896, .f32⟩
  | .local _ .vmem, ⟨10, _⟩ => ⟨S256x896, .f32⟩
  | .local _ .vmem, ⟨11, _⟩ => ⟨S256x8, .f32⟩
  | .local _ .vmem, ⟨12, _⟩ => ⟨S256x8, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  (ofTc nBuf bufTy 1 53 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v25 : BitVec 32 := Scalar.muli v2 c4_i32_15
  let v26 : BitVec 32 := Scalar.addi c0_i32 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v27 : BitVec 32 := Scalar.muli v5 c2_i32_16
  let v28 : BitVec 32 := Scalar.addi v26 v27
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_17 : BitVec 32 := 1#32
  let v29 : BitVec 32 := Scalar.muli v9 c1_i32_17
  let v30 : BitVec 32 := Scalar.addi v28 v29
  v30.toNat
def k0_dev2 (d0 : Dev nD) : Nat :=
  let c0_i32_20 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_19 : BitVec 32 := 4#32
  let v31 : BitVec 32 := Scalar.muli v22 c4_i32_19
  let v32 : BitVec 32 := Scalar.addi c0_i32_20 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v33 : BitVec 32 := Scalar.muli v5 c2_i32_21
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v35 : BitVec 32 := Scalar.muli v8 c1_i32_22
  let v36 : BitVec 32 := Scalar.addi v34 v35
  v36.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v37 : BitVec 32 := Scalar.muli v2 c4_i32_24
  let v38 : BitVec 32 := Scalar.addi c0_i32_25 v37
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_26 : BitVec 32 := 2#32
  let v39 : BitVec 32 := Scalar.muli v23 c2_i32_26
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v41 : BitVec 32 := Scalar.muli v8 c1_i32_27
  let v42 : BitVec 32 := Scalar.addi v40 v41
  v42.toNat
def k0_off1 (d0 : Dev nD) : Fin 2 → Nat :=
  let c0_33 : Index := 0#32
  let c512_i32 : BitVec 32 := 512#32
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.addi v10 v5
  let c896_i32 : BitVec 32 := 896#32
  let v51 : BitVec 32 := Scalar.muli v11 c896_i32
  let v52 : BitVec 32 := Scalar.addi c512_i32 v51
  let v53 : Index := Scalar.indexCast v52
  ![0, v53.toNat]
def k0_dev4 (d0 : Dev nD) : Nat :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_51 : BitVec 32 := 4#32
  let v77 : BitVec 32 := Scalar.muli v2 c4_i32_51
  let v78 : BitVec 32 := Scalar.addi c0_i32_52 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_53 : BitVec 32 := 2#32
  let v79 : BitVec 32 := Scalar.muli v5 c2_i32_53
  let v80 : BitVec 32 := Scalar.addi v78 v79
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_54 : BitVec 32 := 1#32
  let v81 : BitVec 32 := Scalar.muli v9 c1_i32_54
  let v82 : BitVec 32 := Scalar.addi v80 v81
  v82.toNat
def k0_dev5 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v89 : BitVec 32 := Scalar.muli v2 c4_i32_61
  let v90 : BitVec 32 := Scalar.addi c0_i32_62 v89
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v91 : BitVec 32 := Scalar.muli v5 c2_i32_63
  let v92 : BitVec 32 := Scalar.addi v90 v91
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_64 : BitVec 32 := 1#32
  let v93 : BitVec 32 := Scalar.muli v9 c1_i32_64
  let v94 : BitVec 32 := Scalar.addi v92 v93
  v94.toNat
def k0_dev6 (d0 : Dev nD) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v101 : BitVec 32 := Scalar.muli v2 c4_i32_70
  let v102 : BitVec 32 := Scalar.addi c0_i32_71 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_72 : BitVec 32 := 2#32
  let v103 : BitVec 32 := Scalar.muli v5 c2_i32_72
  let v104 : BitVec 32 := Scalar.addi v102 v103
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_73 : BitVec 32 := 1#32
  let v105 : BitVec 32 := Scalar.muli v9 c1_i32_73
  let v106 : BitVec 32 := Scalar.addi v104 v105
  v106.toNat
def k0_dev7 (d0 : Dev nD) : Nat :=
  let c0_i32_77 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_76 : BitVec 32 := 4#32
  let v111 : BitVec 32 := Scalar.muli v2 c4_i32_76
  let v112 : BitVec 32 := Scalar.addi c0_i32_77 v111
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_78 : BitVec 32 := 2#32
  let v113 : BitVec 32 := Scalar.muli v5 c2_i32_78
  let v114 : BitVec 32 := Scalar.addi v112 v113
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_79 : BitVec 32 := 1#32
  let v115 : BitVec 32 := Scalar.muli v9 c1_i32_79
  let v116 : BitVec 32 := Scalar.addi v114 v115
  v116.toNat
def k0_dev8 (d0 : Dev nD) : Nat :=
  let c0_i32_86 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_85 : BitVec 32 := 4#32
  let v123 : BitVec 32 := Scalar.muli v2 c4_i32_85
  let v124 : BitVec 32 := Scalar.addi c0_i32_86 v123
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_87 : BitVec 32 := 2#32
  let v125 : BitVec 32 := Scalar.muli v5 c2_i32_87
  let v126 : BitVec 32 := Scalar.addi v124 v125
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_88 : BitVec 32 := 1#32
  let v127 : BitVec 32 := Scalar.muli v9 c1_i32_88
  let v128 : BitVec 32 := Scalar.addi v126 v127
  v128.toNat
def k0_dev9 (d0 : Dev nD) : Nat :=
  let c0_i32_95 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_94 : BitVec 32 := 4#32
  let v135 : BitVec 32 := Scalar.muli v2 c4_i32_94
  let v136 : BitVec 32 := Scalar.addi c0_i32_95 v135
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_96 : BitVec 32 := 2#32
  let v137 : BitVec 32 := Scalar.muli v5 c2_i32_96
  let v138 : BitVec 32 := Scalar.addi v136 v137
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_97 : BitVec 32 := 1#32
  let v139 : BitVec 32 := Scalar.muli v9 c1_i32_97
  let v140 : BitVec 32 := Scalar.addi v138 v139
  v140.toNat
def k0_dev10 (d0 : Dev nD) : Nat :=
  let c0_i32_104 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_103 : BitVec 32 := 4#32
  let v147 : BitVec 32 := Scalar.muli v2 c4_i32_103
  let v148 : BitVec 32 := Scalar.addi c0_i32_104 v147
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_105 : BitVec 32 := 2#32
  let v149 : BitVec 32 := Scalar.muli v5 c2_i32_105
  let v150 : BitVec 32 := Scalar.addi v148 v149
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_106 : BitVec 32 := 1#32
  let v151 : BitVec 32 := Scalar.muli v9 c1_i32_106
  let v152 : BitVec 32 := Scalar.addi v150 v151
  v152.toNat
def k0_dev11 (d0 : Dev nD) : Nat :=
  let c0_i32_112 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_111 : BitVec 32 := 4#32
  let v159 : BitVec 32 := Scalar.muli v2 c4_i32_111
  let v160 : BitVec 32 := Scalar.addi c0_i32_112 v159
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_113 : BitVec 32 := 2#32
  let v161 : BitVec 32 := Scalar.muli v5 c2_i32_113
  let v162 : BitVec 32 := Scalar.addi v160 v161
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_114 : BitVec 32 := 1#32
  let v163 : BitVec 32 := Scalar.muli v9 c1_i32_114
  let v164 : BitVec 32 := Scalar.addi v162 v163
  v164.toNat
def k0_dev12 (d0 : Dev nD) : Nat :=
  let c0_i32_121 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_120 : BitVec 32 := 4#32
  let v171 : BitVec 32 := Scalar.muli v2 c4_i32_120
  let v172 : BitVec 32 := Scalar.addi c0_i32_121 v171
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_122 : BitVec 32 := 2#32
  let v173 : BitVec 32 := Scalar.muli v5 c2_i32_122
  let v174 : BitVec 32 := Scalar.addi v172 v173
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_123 : BitVec 32 := 1#32
  let v175 : BitVec 32 := Scalar.muli v9 c1_i32_123
  let v176 : BitVec 32 := Scalar.addi v174 v175
  v176.toNat
def k0_dev13 (d0 : Dev nD) : Nat :=
  let c0_i32_137 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_136 : BitVec 32 := 4#32
  let v191 : BitVec 32 := Scalar.muli v22 c4_i32_136
  let v192 : BitVec 32 := Scalar.addi c0_i32_137 v191
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_138 : BitVec 32 := 2#32
  let v193 : BitVec 32 := Scalar.muli v5 c2_i32_138
  let v194 : BitVec 32 := Scalar.addi v192 v193
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_139 : BitVec 32 := 1#32
  let v195 : BitVec 32 := Scalar.muli v8 c1_i32_139
  let v196 : BitVec 32 := Scalar.addi v194 v195
  v196.toNat
def k0_dev14 (d0 : Dev nD) : Nat :=
  let c0_i32_147 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_146 : BitVec 32 := 4#32
  let v203 : BitVec 32 := Scalar.muli v2 c4_i32_146
  let v204 : BitVec 32 := Scalar.addi c0_i32_147 v203
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_148 : BitVec 32 := 2#32
  let v205 : BitVec 32 := Scalar.muli v23 c2_i32_148
  let v206 : BitVec 32 := Scalar.addi v204 v205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_149 : BitVec 32 := 1#32
  let v207 : BitVec 32 := Scalar.muli v8 c1_i32_149
  let v208 : BitVec 32 := Scalar.addi v206 v207
  v208.toNat
def k0_dev15 (d0 : Dev nD) : Nat :=
  let c0_i32_167 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_166 : BitVec 32 := 4#32
  let v225 : BitVec 32 := Scalar.muli v22 c4_i32_166
  let v226 : BitVec 32 := Scalar.addi c0_i32_167 v225
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_168 : BitVec 32 := 2#32
  let v227 : BitVec 32 := Scalar.muli v5 c2_i32_168
  let v228 : BitVec 32 := Scalar.addi v226 v227
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_169 : BitVec 32 := 1#32
  let v229 : BitVec 32 := Scalar.muli v8 c1_i32_169
  let v230 : BitVec 32 := Scalar.addi v228 v229
  v230.toNat
def k0_dev16 (d0 : Dev nD) : Nat :=
  let c0_i32_177 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_176 : BitVec 32 := 4#32
  let v237 : BitVec 32 := Scalar.muli v2 c4_i32_176
  let v238 : BitVec 32 := Scalar.addi c0_i32_177 v237
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_178 : BitVec 32 := 2#32
  let v239 : BitVec 32 := Scalar.muli v23 c2_i32_178
  let v240 : BitVec 32 := Scalar.addi v238 v239
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_179 : BitVec 32 := 1#32
  let v241 : BitVec 32 := Scalar.muli v8 c1_i32_179
  let v242 : BitVec 32 := Scalar.addi v240 v241
  v242.toNat
def k0_dev17 (d0 : Dev nD) : Nat :=
  let c0_i32_197 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_196 : BitVec 32 := 4#32
  let v259 : BitVec 32 := Scalar.muli v22 c4_i32_196
  let v260 : BitVec 32 := Scalar.addi c0_i32_197 v259
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_198 : BitVec 32 := 2#32
  let v261 : BitVec 32 := Scalar.muli v5 c2_i32_198
  let v262 : BitVec 32 := Scalar.addi v260 v261
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_199 : BitVec 32 := 1#32
  let v263 : BitVec 32 := Scalar.muli v8 c1_i32_199
  let v264 : BitVec 32 := Scalar.addi v262 v263
  v264.toNat
def k0_dev18 (d0 : Dev nD) : Nat :=
  let c0_i32_207 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_206 : BitVec 32 := 4#32
  let v271 : BitVec 32 := Scalar.muli v2 c4_i32_206
  let v272 : BitVec 32 := Scalar.addi c0_i32_207 v271
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_208 : BitVec 32 := 2#32
  let v273 : BitVec 32 := Scalar.muli v23 c2_i32_208
  let v274 : BitVec 32 := Scalar.addi v272 v273
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_209 : BitVec 32 := 1#32
  let v275 : BitVec 32 := Scalar.muli v8 c1_i32_209
  let v276 : BitVec 32 := Scalar.addi v274 v275
  v276.toNat
def k0_dev19 (d0 : Dev nD) : Nat :=
  let c0_i32_227 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_226 : BitVec 32 := 4#32
  let v293 : BitVec 32 := Scalar.muli v22 c4_i32_226
  let v294 : BitVec 32 := Scalar.addi c0_i32_227 v293
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_228 : BitVec 32 := 2#32
  let v295 : BitVec 32 := Scalar.muli v5 c2_i32_228
  let v296 : BitVec 32 := Scalar.addi v294 v295
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_229 : BitVec 32 := 1#32
  let v297 : BitVec 32 := Scalar.muli v8 c1_i32_229
  let v298 : BitVec 32 := Scalar.addi v296 v297
  v298.toNat
def k0_dev20 (d0 : Dev nD) : Nat :=
  let c0_i32_237 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_236 : BitVec 32 := 4#32
  let v305 : BitVec 32 := Scalar.muli v2 c4_i32_236
  let v306 : BitVec 32 := Scalar.addi c0_i32_237 v305
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_238 : BitVec 32 := 2#32
  let v307 : BitVec 32 := Scalar.muli v23 c2_i32_238
  let v308 : BitVec 32 := Scalar.addi v306 v307
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_239 : BitVec 32 := 1#32
  let v309 : BitVec 32 := Scalar.muli v8 c1_i32_239
  let v310 : BitVec 32 := Scalar.addi v308 v309
  v310.toNat
def k0_dev21 (d0 : Dev nD) : Nat :=
  let c0_i32_257 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_256 : BitVec 32 := 4#32
  let v327 : BitVec 32 := Scalar.muli v22 c4_i32_256
  let v328 : BitVec 32 := Scalar.addi c0_i32_257 v327
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_258 : BitVec 32 := 2#32
  let v329 : BitVec 32 := Scalar.muli v5 c2_i32_258
  let v330 : BitVec 32 := Scalar.addi v328 v329
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_259 : BitVec 32 := 1#32
  let v331 : BitVec 32 := Scalar.muli v8 c1_i32_259
  let v332 : BitVec 32 := Scalar.addi v330 v331
  v332.toNat
def k0_dev22 (d0 : Dev nD) : Nat :=
  let c0_i32_267 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_266 : BitVec 32 := 4#32
  let v339 : BitVec 32 := Scalar.muli v2 c4_i32_266
  let v340 : BitVec 32 := Scalar.addi c0_i32_267 v339
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_268 : BitVec 32 := 2#32
  let v341 : BitVec 32 := Scalar.muli v23 c2_i32_268
  let v342 : BitVec 32 := Scalar.addi v340 v341
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_269 : BitVec 32 := 1#32
  let v343 : BitVec 32 := Scalar.muli v8 c1_i32_269
  let v344 : BitVec 32 := Scalar.addi v342 v343
  v344.toNat
def k0_dev23 (d0 : Dev nD) : Nat :=
  let c0_i32_287 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_286 : BitVec 32 := 4#32
  let v361 : BitVec 32 := Scalar.muli v22 c4_i32_286
  let v362 : BitVec 32 := Scalar.addi c0_i32_287 v361
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_288 : BitVec 32 := 2#32
  let v363 : BitVec 32 := Scalar.muli v5 c2_i32_288
  let v364 : BitVec 32 := Scalar.addi v362 v363
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_289 : BitVec 32 := 1#32
  let v365 : BitVec 32 := Scalar.muli v8 c1_i32_289
  let v366 : BitVec 32 := Scalar.addi v364 v365
  v366.toNat
def k0_dev24 (d0 : Dev nD) : Nat :=
  let c0_i32_297 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_296 : BitVec 32 := 4#32
  let v373 : BitVec 32 := Scalar.muli v2 c4_i32_296
  let v374 : BitVec 32 := Scalar.addi c0_i32_297 v373
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_298 : BitVec 32 := 2#32
  let v375 : BitVec 32 := Scalar.muli v23 c2_i32_298
  let v376 : BitVec 32 := Scalar.addi v374 v375
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_299 : BitVec 32 := 1#32
  let v377 : BitVec 32 := Scalar.muli v8 c1_i32_299
  let v378 : BitVec 32 := Scalar.addi v376 v377
  v378.toNat
def k0_dev25 (d0 : Dev nD) : Nat :=
  let c0_i32_317 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_316 : BitVec 32 := 4#32
  let v395 : BitVec 32 := Scalar.muli v22 c4_i32_316
  let v396 : BitVec 32 := Scalar.addi c0_i32_317 v395
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_318 : BitVec 32 := 2#32
  let v397 : BitVec 32 := Scalar.muli v5 c2_i32_318
  let v398 : BitVec 32 := Scalar.addi v396 v397
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_319 : BitVec 32 := 1#32
  let v399 : BitVec 32 := Scalar.muli v8 c1_i32_319
  let v400 : BitVec 32 := Scalar.addi v398 v399
  v400.toNat
def k0_dev26 (d0 : Dev nD) : Nat :=
  let c0_i32_327 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_326 : BitVec 32 := 4#32
  let v407 : BitVec 32 := Scalar.muli v2 c4_i32_326
  let v408 : BitVec 32 := Scalar.addi c0_i32_327 v407
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_328 : BitVec 32 := 2#32
  let v409 : BitVec 32 := Scalar.muli v23 c2_i32_328
  let v410 : BitVec 32 := Scalar.addi v408 v409
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_329 : BitVec 32 := 1#32
  let v411 : BitVec 32 := Scalar.muli v8 c1_i32_329
  let v412 : BitVec 32 := Scalar.addi v410 v411
  v412.toNat
def k0_dev27 (d0 : Dev nD) : Nat :=
  let c0_i32_377 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_376 : BitVec 32 := 4#32
  let v459 : BitVec 32 := Scalar.muli v22 c4_i32_376
  let v460 : BitVec 32 := Scalar.addi c0_i32_377 v459
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_378 : BitVec 32 := 2#32
  let v461 : BitVec 32 := Scalar.muli v5 c2_i32_378
  let v462 : BitVec 32 := Scalar.addi v460 v461
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_379 : BitVec 32 := 1#32
  let v463 : BitVec 32 := Scalar.muli v8 c1_i32_379
  let v464 : BitVec 32 := Scalar.addi v462 v463
  v464.toNat
def k0_off2 (d0 : Dev nD) : Fin 2 → Nat :=
  let c0_397 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32 : BitVec 32 := 4096#32
  let v497 : BitVec 32 := Scalar.muli v8 c4096_i32
  let v498 : Index := Scalar.indexCast v497
  ![0, v498.toNat]
def k0_off3 (d0 : Dev nD) : Fin 2 → Nat :=
  let c0_403 : Index := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c4096_i32_398 : BitVec 32 := 4096#32
  let v500 : BitVec 32 := Scalar.muli v9 c4096_i32_398
  let c512_i32_401 : BitVec 32 := 512#32
  let v507 : BitVec 32 := Scalar.addi v500 c512_i32_401
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.addi v10 v5
  let c896_i32_402 : BitVec 32 := 896#32
  let v508 : BitVec 32 := Scalar.muli v11 c896_i32_402
  let v509 : BitVec 32 := Scalar.addi v507 v508
  let v510 : Index := Scalar.indexCast v509
  ![0, v510.toNat]
def k0_dev28 (d0 : Dev nD) : Nat :=
  let c0_i32_437 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_436 : BitVec 32 := 4#32
  let v542 : BitVec 32 := Scalar.muli v2 c4_i32_436
  let v543 : BitVec 32 := Scalar.addi c0_i32_437 v542
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_438 : BitVec 32 := 2#32
  let v544 : BitVec 32 := Scalar.muli v23 c2_i32_438
  let v545 : BitVec 32 := Scalar.addi v543 v544
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_439 : BitVec 32 := 1#32
  let v546 : BitVec 32 := Scalar.muli v8 c1_i32_439
  let v547 : BitVec 32 := Scalar.addi v545 v546
  v547.toNat
def k0_off4 (d0 : Dev nD) : Fin 2 → Nat :=
  let c0_488 : Index := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c4096_i32_398 : BitVec 32 := 4096#32
  let v500 : BitVec 32 := Scalar.muli v9 c4096_i32_398
  let c512_i32_486 : BitVec 32 := 512#32
  let v600 : BitVec 32 := Scalar.addi v500 c512_i32_486
  let c2_i32_6 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v13 : BitVec 32 := Scalar.muli c2_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c896_i32_487 : BitVec 32 := 896#32
  let v601 : BitVec 32 := Scalar.muli v14 c896_i32_487
  let v602 : BitVec 32 := Scalar.addi v600 v601
  let v603 : Index := Scalar.indexCast v602
  ![0, v603.toNat]
def k0_off5 (d0 : Dev nD) : Fin 2 → Nat :=
  let c0_523 : Index := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c4096_i32_398 : BitVec 32 := 4096#32
  let v500 : BitVec 32 := Scalar.muli v9 c4096_i32_398
  let c512_i32_521 : BitVec 32 := 512#32
  let v641 : BitVec 32 := Scalar.addi v500 c512_i32_521
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let v17 : BitVec 32 := Scalar.addi v15 v16
  let c896_i32_522 : BitVec 32 := 896#32
  let v642 : BitVec 32 := Scalar.muli v17 c896_i32_522
  let v643 : BitVec 32 := Scalar.addi v641 v642
  let v644 : Index := Scalar.indexCast v643
  ![0, v644.toNat]
def k0_off6 (d0 : Dev nD) : Fin 2 → Nat :=
  let c0_532 : Index := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c4096_i32_398 : BitVec 32 := 4096#32
  let v500 : BitVec 32 := Scalar.muli v9 c4096_i32_398
  let v660 : Index := Scalar.indexCast v500
  ![0, v660.toNat]
def k0_off7 (d0 : Dev nD) : Fin 2 → Nat :=
  let c0_557 : Index := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c4096_i32_398 : BitVec 32 := 4096#32
  let v500 : BitVec 32 := Scalar.muli v9 c4096_i32_398
  let c512_i32_555 : BitVec 32 := 512#32
  let v688 : BitVec 32 := Scalar.addi v500 c512_i32_555
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let v19 : BitVec 32 := Scalar.muli c2_i32_10 v18
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.addi v19 v20
  let c896_i32_556 : BitVec 32 := 896#32
  let v689 : BitVec 32 := Scalar.muli v21 c896_i32_556
  let v690 : BitVec 32 := Scalar.addi v688 v689
  let v691 : Index := Scalar.indexCast v690
  ![0, v691.toNat]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S256x512 : Shape := ⟨2, ![256, 512]⟩
abbrev S512x8192 : Shape := ⟨2, ![512, 8192]⟩
abbrev S256x8192 : Shape := ⟨2, ![256, 8192]⟩
abbrev S_ : Shape := ⟨0, ![]⟩
abbrev S256 : Shape := ⟨1, ![256]⟩
abbrev S256x1 : Shape := ⟨2, ![256, 1]⟩

abbrev nBuf : Space → Nat
  | .hbm => 14
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x8192, .f32⟩
  | .hbm, ⟨2, _⟩ => ⟨S256x8192, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S256x8192, .f32⟩
  | .hbm, ⟨7, _⟩ => ⟨S256x8192, .f32⟩
  | .hbm, ⟨8, _⟩ => ⟨S256x8192, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S256x8192, .f32⟩
  | .hbm, ⟨13, _⟩ => ⟨S256x8192, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Protocol.lean ====
/-
# The protocol of the kernel's transfers

The kernel runs on a cube of eight devices. Every remote copy is one of 25 transfers, named by `Tx`. This module names
each transfer's buffers, semaphores, partner device and payload, and states the schedule the devices follow.

- `z s`, `zR`, `st` go to the device across the z axis: seven slices and the rest of the logits half, and the row statistics.
- `x1 s`, `y1 s` pass a received slice on across the x axis and across the y axis.
- `x2`, `y2` pass the lower columns and the upper columns of what came by one axis on across the other.

A device has one cell per transfer it sends, one per transfer it receives, and the barrier cell. Each cell runs one round.
A receive cell hands over the landing buffer at the sender's contents. A send cell hands the lent share of the source back.
The barrier cell hands over the landing buffers of the three neighbours, which is what makes the sends safe.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Pipeline.TalkSites
public import Idealize.ShloMosaic.Lib.MemrefSat
public import Idealize.ShloMosaic.Lib.Tactic

@[expose] public section

noncomputable section

namespace Cert.SoftmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F]

/-! ## The transfers -/

/-- A transfer of the kernel, by the copy it is in the program. -/
inductive Tx where
  | z (s : Fin 7)
  | x1 (s : Fin 7)
  | y1 (s : Fin 7)
  | zR
  | x2
  | y2
  | st
deriving DecidableEq

/-- All transfers, in a list. -/
def allTx : List Tx :=
  (List.finRange 7).map .z ++ (List.finRange 7).map .x1 ++ (List.finRange 7).map .y1 ++ [.zR, .x2, .y2, .st]

theorem mem_allTx (t : Tx) : t ∈ allTx := by
  unfold allTx
  rcases t with s | s | s | - | - | - | - <;> simp

instance : Fintype Tx := ⟨⟨(allTx : Multiset Tx), by decide⟩, fun t => mem_allTx t⟩

theorem univ_Tx : (Finset.univ : Finset Tx) = allTx.toFinset := by
  ext t; simp [mem_allTx]

/-! ### The devices -/

set_option backward.proofsInPublic true in
/-- The device across the z axis. -/
def zp (c : Dev nD) : Dev nD := ⟨c.val ^^^ 1, by revert c; decide⟩
set_option backward.proofsInPublic true in
/-- The device across the x axis. -/
def xn (c : Dev nD) : Dev nD := ⟨c.val ^^^ 4, by revert c; decide⟩
set_option backward.proofsInPublic true in
/-- The device across the y axis. -/
def yn (c : Dev nD) : Dev nD := ⟨c.val ^^^ 2, by revert c; decide⟩

theorem zp_zp (c : Dev nD) : zp (zp c) = c := by revert c; decide
theorem xn_xn (c : Dev nD) : xn (xn c) = c := by revert c; decide
theorem yn_yn (c : Dev nD) : yn (yn c) = c := by revert c; decide
theorem zp_xn (c : Dev nD) : zp (xn c) = xn (zp c) := by revert c; decide
theorem zp_yn (c : Dev nD) : zp (yn c) = yn (zp c) := by revert c; decide
theorem yn_xn (c : Dev nD) : yn (xn c) = xn (yn c) := by revert c; decide

/-- Where transfer `t` of device `c` goes. It is also where device `c`'s own transfer `t` comes from. -/
def peer (t : Tx) (c : Dev nD) : Dev nD :=
  match t with
  | .z _ | .zR | .st => zp c
  | .x1 _ | .x2 => xn c
  | .y1 _ | .y2 => yn c

theorem peer_peer (t : Tx) (c : Dev nD) : peer t (peer t c) = c := by
  cases t <;> first | exact zp_zp c | exact xn_xn c | exact yn_yn c

/-- The device the program computes for transfer `t`. -/
def dev (t : Tx) (c : Dev nD) : Dev nD :=
  match t with
  | .z 0 => ⟨k0_dev4 c, k0_dev4_lt c⟩
  | .z 1 => ⟨k0_dev5 c, k0_dev5_lt c⟩
  | .st => ⟨k0_dev6 c, k0_dev6_lt c⟩
  | .z 2 => ⟨k0_dev7 c, k0_dev7_lt c⟩
  | .z 3 => ⟨k0_dev8 c, k0_dev8_lt c⟩
  | .z 4 => ⟨k0_dev9 c, k0_dev9_lt c⟩
  | .z 5 => ⟨k0_dev10 c, k0_dev10_lt c⟩
  | .z 6 => ⟨k0_dev11 c, k0_dev11_lt c⟩
  | .zR => ⟨k0_dev12 c, k0_dev12_lt c⟩
  | .x1 0 => ⟨k0_dev13 c, k0_dev13_lt c⟩
  | .y1 0 => ⟨k0_dev14 c, k0_dev14_lt c⟩
  | .x1 1 => ⟨k0_dev15 c, k0_dev15_lt c⟩
  | .y1 1 => ⟨k0_dev16 c, k0_dev16_lt c⟩
  | .x1 2 => ⟨k0_dev17 c, k0_dev17_lt c⟩
  | .y1 2 => ⟨k0_dev18 c, k0_dev18_lt c⟩
  | .x1 3 => ⟨k0_dev19 c, k0_dev19_lt c⟩
  | .y1 3 => ⟨k0_dev20 c, k0_dev20_lt c⟩
  | .x1 4 => ⟨k0_dev21 c, k0_dev21_lt c⟩
  | .y1 4 => ⟨k0_dev22 c, k0_dev22_lt c⟩
  | .x1 5 => ⟨k0_dev23 c, k0_dev23_lt c⟩
  | .y1 5 => ⟨k0_dev24 c, k0_dev24_lt c⟩
  | .x1 6 => ⟨k0_dev25 c, k0_dev25_lt c⟩
  | .y1 6 => ⟨k0_dev26 c, k0_dev26_lt c⟩
  | .x2 => ⟨k0_dev27 c, k0_dev27_lt c⟩
  | .y2 => ⟨k0_dev28 c, k0_dev28_lt c⟩

theorem dev_eq_peer : ∀ (t : Tx) (c : Dev nD), dev t c = peer t c := by decide +kernel
theorem dev1_eq : ∀ c : Dev nD, (⟨k0_dev1 c, k0_dev1_lt c⟩ : Dev nD) = zp c := by decide +kernel
theorem dev2_eq : ∀ c : Dev nD, (⟨k0_dev2 c, k0_dev2_lt c⟩ : Dev nD) = xn c := by decide +kernel
theorem dev3_eq : ∀ c : Dev nD, (⟨k0_dev3 c, k0_dev3_lt c⟩ : Dev nD) = yn c := by decide +kernel

/-! ### The buffers -/

abbrev xM : Memref sig .tc .vmem S256x512 .f32 := Memref.whole cc0_stg0_0
abbrev wM : Memref sig .tc .vmem S512x4096 .f32 := Memref.whole cc0_stg1_0
abbrev oM : Memref sig .tc .vmem S256x8192 .f32 := Memref.whole cc0_stg2_0
abbrev lgM : Memref sig .tc .vmem S256x4096 .f32 := Memref.whole cc0_scratch0
abbrev usM : Memref sig .tc .vmem S256x896 .f32 := Memref.whole cc0_scratch1
abbrev rsM : Memref sig .tc .vmem S256x512 .f32 := Memref.whole cc0_scratch2
abbrev urM : Memref sig .tc .vmem S256x896 .f32 := Memref.whole cc0_scratch3
abbrev rrM : Memref sig .tc .vmem S256x512 .f32 := Memref.whole cc0_scratch4
abbrev xrM : Memref sig .tc .vmem S256x896 .f32 := Memref.whole cc0_scratch5
abbrev yrM : Memref sig .tc .vmem S256x896 .f32 := Memref.whole cc0_scratch6
abbrev drM : Memref sig .tc .vmem S256x896 .f32 := Memref.whole cc0_scratch7
abbrev ssM : Memref sig .tc .vmem S256x8 .f32 := Memref.whole cc0_scratch8
abbrev srM : Memref sig .tc .vmem S256x8 .f32 := Memref.whole cc0_scratch9

theorem inb_slice (s : Fin 7) : ∀ a, (![0, 128 * s.val] : Fin 2 → Nat) a + S256x128.size a ≤ S256x896.size a := by
  revert s; decide

/-- The `s`-th slice of 128 columns of a buffer of 896. -/
abbrev rz (s : Fin 7) : Rect S256x896 := Rect.unit (s := S256x896) ![0, 128 * s.val] S256x128.size (inb_slice s)
/-- The lower 512 columns. -/
abbrev rlo : Rect S256x896 := Rect.unit (s := S256x896) ![0, 0] S256x512.size inb_S256x896_S256x512_0_0
/-- The upper 384 columns. -/
abbrev rhi : Rect S256x896 := Rect.unit (s := S256x896) ![0, 512] S256x384.size inb_S256x896_S256x384_0_512

/-- What transfer `t` moves: the shape. -/
abbrev shp : Tx → Shape
  | .z _ | .x1 _ | .y1 _ => S256x128
  | .zR => S256x512
  | .x2 => S256x512
  | .y2 => S256x384
  | .st => S256x8

/-- The source of transfer `t`. -/
abbrev src : (t : Tx) → Memref sig .tc .vmem (shp t) .f32
  | .z s => usM.slice (rz s) (fun _ => rfl)
  | .x1 s => urM.slice (rz s) (fun _ => rfl)
  | .y1 s => urM.slice (rz s) (fun _ => rfl)
  | .zR => rsM
  | .x2 => yrM.slice rlo (fun _ => rfl)
  | .y2 => xrM.slice rhi (fun _ => rfl)
  | .st => ssM

/-- The destination of transfer `t`. -/
abbrev dst : (t : Tx) → Memref sig .tc .vmem (shp t) .f32
  | .z s => urM.slice (rz s) (fun _ => rfl)
  | .x1 s => xrM.slice (rz s) (fun _ => rfl)
  | .y1 s => yrM.slice (rz s) (fun _ => rfl)
  | .zR => rrM
  | .x2 => drM.slice rlo (fun _ => rfl)
  | .y2 => drM.slice rhi (fun _ => rfl)
  | .st => srM

theorem src_exact (t : Tx) : (src t).view.WordExact := by
  cases t <;> exact View.wordExact_bits rfl
theorem dst_exact (t : Tx) : (dst t).view.WordExact := by
  cases t <;> exact View.wordExact_bits rfl
theorem dst_sc (t : Tx) : (dst t).view.ref.isScScratch = false := by
  cases t <;> rfl

/-- The number of the send semaphore of transfer `t`. -/
def sNum : Tx → ℕ
  | .z s => 3 + s.val
  | .x1 s => 17 + s.val
  | .y1 s => 31 + s.val
  | .zR => 45
  | .x2 => 47
  | .y2 => 49
  | .st => 51
/-- The number of the receive semaphore of transfer `t`. -/
def rNum : Tx → ℕ
  | .z s => 10 + s.val
  | .x1 s => 24 + s.val
  | .y1 s => 38 + s.val
  | .zR => 46
  | .x2 => 48
  | .y2 => 50
  | .st => 52

theorem sNum_lt : ∀ t : Tx, sNum t < sig.nDmaSem := by decide
theorem rNum_lt : ∀ t : Tx, rNum t < sig.nDmaSem := by decide

/-- The send semaphore of transfer `t`, and the receive semaphore. -/
def sS (t : Tx) : DmaSem sig := ⟨sNum t, sNum_lt t⟩
def rS (t : Tx) : DmaSem sig := ⟨rNum t, rNum_lt t⟩

/-- One of the 50 semaphores: `false` the send side, `true` the receive side. -/
abbrev Ci : Type := Bool × Tx
def semOf (p : Ci) : DmaSem sig := if p.1 then rS p.2 else sS p.2

/-- Which of the 50 a semaphore is, if it is one. -/
def decode (n : DmaSem sig) : Option Ci :=
  (allTx.flatMap fun t => [(false, t), (true, t)]).find? fun p => semOf p = n

theorem decode_semOf : ∀ p : Ci, decode (semOf p) = some p := by decide +kernel
theorem semOf_inj : Function.Injective semOf := fun a b h => by
  have := decode_semOf a; rw [h, decode_semOf b] at this; exact (Option.some.inj this).symm

/-- The barrier semaphore. -/
abbrev barS : Sem sig := (SemArray.scalar (sig.barrier 0 rfl) : Sems sig S_).sem

abbrev sCell (t : Tx) (c : Dev nD) : GSem nD τ sig := ((c : Thread nD τ), .dma (sS t))
abbrev rCell (t : Tx) (c : Dev nD) : GSem nD τ sig := ((c : Thread nD τ), .dma (rS t))
abbrev barCell (c : Dev nD) : GSem nD τ sig := ((c : Thread nD τ), .reg barS)

/-- The semaphores the launch gives the kernel for itself. -/
abbrev osem (p : Ci) : SemLoc sig := .dma (semOf p)
/-- All cells of a device: the barrier cell and the 50. -/
abbrev csem : Option Ci → SemLoc sig
  | none => .reg barS
  | some p => .dma (semOf p)
abbrev kcell (ck : Dev nD × Option Ci) : GSem nD τ sig := ((ck.1 : Thread nD τ), csem ck.2)

/-- The credit transfer `t` carries. -/
abbrev N (t : Tx) : ℕ := (dst t).view.dmaCredit
theorem N_pos (t : Tx) : 0 < N t := by
  have h : ∀ t, 0 < (shp t).numel := fun t => by
    rcases t with s | s | s | - | - | - | - <;> first | decide | exact (by decide : 0 < S256x128.numel)
  exact View.dmaCredit_pos _ (h t)
theorem src_credit (t : Tx) : (src t).view.dmaCredit = N t := by
  cases t <;> rfl

/-! ## Contents -/

section Contents

variable (xs : Dev nD → S256x512.Idx → Elt F .f32) (ws : Dev nD → S512x4096.Idx → Elt F .f32)

/-- The logits of device `c`'s half of the columns. -/
def lg (c : Dev nD) : S256x4096.Idx → Elt F .f32 := k0_pay1 (xs c) (ws c)

/-- The columns of its half that device `c` sends slice by slice. -/
abbrev rU (c : Dev nD) : Rect S256x4096 := Rect.unit (s := S256x4096) (k0_off1 c) S256x896.size (k0_off1_inb c)
abbrev rR : Rect S256x4096 := Rect.unit (s := S256x4096) ![0, 0] S256x512.size inb_S256x4096_S256x512_0_0

def us (c : Dev nD) : S256x896.Idx → Elt F .f32 := k0_pay2 fun j => lg xs ws c ((rU c).emb j)
def rs (c : Dev nD) : S256x512.Idx → Elt F .f32 := k0_pay3 fun j => lg xs ws c (rR.emb j)

/-- The row maxima of the half, and the row sums of exponentials. -/
def mx (c : Dev nD) : S256x1.Idx → Elt F .f32 := k0_pay6 (lg xs ws c)
def sm (c : Dev nD) : S256x1.Idx → Elt F .f32 := k0_pay7 (lg xs ws c) (lg xs ws c)

abbrev rc0 : Rect S256x8 := Rect.unit (s := S256x8) ![0, 0] S256x1.size inb_S256x8_S256x1_0_0
abbrev rc1 : Rect S256x8 := Rect.unit (s := S256x8) ![0, 1] S256x1.size inb_S256x8_S256x1_0_1

/-- What device `d` finds of transfer `t` when it has landed. -/
def Lands : (t : Tx) → (d : Dev nD) → ((shp t).Idx → Elt F .f32) → Prop
  | .z s, d => fun X => X = fun j => us xs ws (zp d) ((rz s).emb j)
  | .x1 s, d => fun X => X = fun j => us xs ws (zp (xn d)) ((rz s).emb j)
  | .y1 s, d => fun X => X = fun j => us xs ws (zp (yn d)) ((rz s).emb j)
  | .zR, d => fun X => X = rs xs ws (zp d)
  | .x2, d => fun X => X = fun j => us xs ws (zp (yn (xn d))) (rlo.emb j)
  | .y2, d => fun X => X = fun j => us xs ws (zp (yn (xn d))) (rhi.emb j)
  | .st, d => fun X => (fun j => X (rc0.emb j)) = mx xs ws (zp d) ∧ (fun j => X (rc1.emb j)) = sm xs ws (zp d)

end Contents

/-! ## The schedule -/

abbrev UB : Type := URounds (GSem nD τ sig) (Fin 3)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-- The share of the source that transfer `t` borrows. A received slice is sent on twice and read once. -/
def lent : Tx → PosShare TreeShare
  | .x1 _ => fullShare.left
  | .y1 _ => fullShare.right.left
  | .x2 => fullShare.left
  | .y2 => fullShare.left
  | _ => fullShare

/-- The transfers device `c` sends to its neighbour of number `i`, the same as those it receives from there. -/
def txOf : Fin 3 → List Tx
  | 0 => [.z 0, .z 1, .st, .z 2, .z 3, .z 4, .z 5, .z 6, .zR]
  | 1 => [.x1 0, .x1 1, .x1 2, .x1 3, .x1 4, .x1 5, .x1 6, .x2]
  | 2 => [.y1 0, .y1 1, .y1 2, .y1 3, .y1 4, .y1 5, .y1 6, .y2]

/-- The neighbours, numbered. -/
def nbr : Fin 3 → Dev nD → Dev nD
  | 0 => zp
  | 1 => xn
  | 2 => yn

theorem nbr_nbr (i : Fin 3) (c : Dev nD) : nbr i (nbr i c) = c := by
  revert i c; decide

/-- The landing buffer of transfer `t` on device `d`, at any contents. -/
def Free (t : Tx) (d : Dev nD) : sProp 𝕄 := ownsSat (d : Thread nD τ) (dst t) fullShare (fun _ => True)

/-- What neighbour `d`'s signal hands over: its landing buffers for the transfers that come to it. -/
def barPay (d : Dev nD) (i : Fin 3) : sProp 𝕄 := bigSepL (txOf i) fun t => Free t (nbr i d)

section Schedule

variable (xs : Dev nD → S256x512.Idx → Elt F .f32) (ws : Dev nD → S512x4096.Idx → Elt F .f32)

/-- What a landing hands the receiver, and what it hands the sender back. -/
def recvPay (t : Tx) (d : Dev nD) : sProp 𝕄 := ownsSat (d : Thread nD τ) (dst t) fullShare (Lands xs ws t d)
def sendPay (t : Tx) (c : Dev nD) : sProp 𝕄 := ownsSat (c : Thread nD τ) (src t) (lent t) (fun _ => True)

/-- The duties of a semaphore's one round. -/
def semDuties : SemLoc sig → Finset (Fin 3)
  | .reg _ => Finset.univ
  | .dma n => if (decode n).isSome then {0} else ∅
def semAmount : SemLoc sig → ℕ
  | .reg _ => 1
  | .dma n => match decode n with
    | some (_, t) => N t
    | none => 1
def semPay (d : Dev nD) (i : Fin 3) : SemLoc sig → sProp 𝕄
  | .reg _ => barPay d i
  | .dma n => match decode n with
    | some (true, t) => recvPay xs ws t d
    | some (false, t) => sendPay t d
    | none => iprop(emp)

instance bigSepL_storable {I : Type} (l : List I) (Φ : I → sProp 𝕄) [∀ i, BI.Storable (upEmb : UEmb _ 𝕄) (Φ i)] :
    BI.Storable (upEmb : UEmb _ 𝕄) (bigSepL l Φ) := by
  induction l with
  | nil => exact inferInstanceAs (BI.Storable (upEmb : UEmb _ 𝕄) iprop(emp))
  | cons x l ih => rw [bigSepL_cons]; exact inferInstanceAs (BI.Storable (upEmb : UEmb _ 𝕄) iprop(Φ x ∗ bigSepL l Φ))

instance Free_storable (t : Tx) (d : Dev nD) : BI.Storable (upEmb : UEmb _ 𝕄) (Free (F := F) t d) := by
  unfold Free; infer_instance

instance semPay_storable (d : Dev nD) (i : Fin 3) (sl : SemLoc sig) : BI.Storable (upEmb : UEmb _ 𝕄) (semPay (F := F) xs ws d i sl) := by
  unfold semPay barPay recvPay sendPay
  (repeat' split) <;> infer_instance

/-- One round per cell, round 0. -/
def Rd : Rounds.Schedule (GSem nD τ sig) (Fin 3) 𝕄 where
  duties g r := if r = 0 ∧ g.1.2 = .tc then semDuties g.2 else ∅
  unitless _ := False
  amount g _ _ := semAmount g.2
  payload g _ d := semPay xs ws g.1.1 d g.2
  amount_pos g _ _ _ := by
    unfold semAmount
    (repeat' split) <;> first | exact Nat.one_pos | exact N_pos _

instance Rd_payload_storable (g : GSem nD τ sig) (r : ℕ) (d : Fin 3) : BI.Storable (upEmb : UEmb _ 𝕄) ((Rd (F := F) xs ws).payload g r d) :=
  semPay_storable xs ws g.1.1 d g.2

theorem duties_later (g : GSem nD τ sig) : ∀ r, 1 ≤ r → (Rd (F := F) xs ws).duties g r = ∅ :=
  fun r hr => if_neg fun h => by omega

theorem decode_sS (t : Tx) : decode (sS t) = some (false, t) := decode_semOf (false, t)
theorem decode_rS (t : Tx) : decode (rS t) = some (true, t) := decode_semOf (true, t)

theorem duties_bar (c : Dev nD) : (Rd (F := F) xs ws).duties (barCell c) 0 = Finset.univ := by
  dsimp only [Rd]; rw [if_pos ⟨rfl, rfl⟩]; rfl
theorem duties_s (t : Tx) (c : Dev nD) : (Rd (F := F) xs ws).duties (sCell t c) 0 = {0} := by
  dsimp only [Rd]; rw [if_pos ⟨rfl, rfl⟩]; dsimp only [semDuties]; rw [decode_sS]; rfl
theorem duties_r (t : Tx) (c : Dev nD) : (Rd (F := F) xs ws).duties (rCell t c) 0 = {0} := by
  dsimp only [Rd]; rw [if_pos ⟨rfl, rfl⟩]; dsimp only [semDuties]; rw [decode_rS]; rfl
theorem amount_bar (c : Dev nD) (d : Fin 3) : (Rd (F := F) xs ws).amount (barCell c) 0 d = 1 := rfl
theorem amount_s (t : Tx) (c : Dev nD) (d : Fin 3) : (Rd (F := F) xs ws).amount (sCell t c) 0 d = N t := by
  dsimp only [Rd, semAmount]; rw [decode_sS]
theorem amount_r (t : Tx) (c : Dev nD) (d : Fin 3) : (Rd (F := F) xs ws).amount (rCell t c) 0 d = N t := by
  dsimp only [Rd, semAmount]; rw [decode_rS]
theorem expect_bar (c : Dev nD) : (Rd (F := F) xs ws).expect (barCell c) 0 = 3 := by
  unfold Schedule.expect Schedule.amountOf
  rw [duties_bar, Finset.sum_congr rfl fun d _ => amount_bar xs ws c d, Finset.sum_const, Finset.card_univ, Fintype.card_fin, smul_eq_mul]
theorem expect_s (t : Tx) (c : Dev nD) : (Rd (F := F) xs ws).expect (sCell t c) 0 = N t := by
  unfold Schedule.expect Schedule.amountOf; rw [duties_s, Finset.sum_singleton, amount_s]
theorem expect_r (t : Tx) (c : Dev nD) : (Rd (F := F) xs ws).expect (rCell t c) 0 = N t := by
  unfold Schedule.expect Schedule.amountOf; rw [duties_r, Finset.sum_singleton, amount_r]
theorem payload_bar (c : Dev nD) (d : Fin 3) : (Rd (F := F) xs ws).payload (barCell c) 0 d = barPay c d := rfl
theorem payload_s (t : Tx) (c : Dev nD) (d : Fin 3) : (Rd (F := F) xs ws).payload (sCell t c) 0 d = sendPay t c := by
  dsimp only [Rd, semPay]; rw [decode_sS]
theorem payload_r (t : Tx) (c : Dev nD) (d : Fin 3) : (Rd (F := F) xs ws).payload (rCell t c) 0 d = recvPay xs ws t c := by
  dsimp only [Rd, semPay]; rw [decode_rS]
theorem rest_bar (c : Dev nD) : bigSep ((Rd (F := F) xs ws).duties (barCell c) 0 \ ∅) (fun d => (Rd (F := F) xs ws).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
theorem rest_s (t : Tx) (c : Dev nD) : bigSep ((Rd (F := F) xs ws).duties (sCell t c) 0 \ ∅) (fun d => (Rd (F := F) xs ws).payload (sCell t c) 0 d) = sendPay t c := by
  rw [Finset.sdiff_empty, duties_s, bigSep_singleton, payload_s]
theorem rest_r (t : Tx) (c : Dev nD) : bigSep ((Rd (F := F) xs ws).duties (rCell t c) 0 \ ∅) (fun d => (Rd (F := F) xs ws).payload (rCell t c) 0 d) = recvPay xs ws t c := by
  rw [Finset.sdiff_empty, duties_r, bigSep_singleton, payload_r]

end Schedule

/-! ## What is owed, and at which level -/

/-- The level a receive cell's credit stands at: a device waits only for levels below those of the transfers it still owes. -/
def lvl : Tx → ℕ
  | .z _ | .zR | .st => 2
  | .x1 _ | .y1 _ => 3
  | .x2 | .y2 => 4

/-- The number of levels. -/
abbrev nL : ℕ := 5

theorem lvl_lt : ∀ t : Tx, lvl t < nL := by decide

/-- The payments that go with the transfers `l` of device `c`. -/
def pays (c : Dev nD) (l : List Tx) : List (Pay nD τ sig) := l.map fun t => (rCell t (peer t c), lvl t, N t)
/-- What device `c` owes while it has the transfers `l` to do. -/
def oweOf (c : Dev nD) (l : List Tx) : CellTallies nD τ sig ℕ := tallyL (pays c l)

theorem oweOf_cons (c : Dev nD) (t : Tx) (l : List Tx) : oweOf c (t :: l) = oweOf c l + tallyAt (rCell t (peer t c)) (lvl t) (N t) := by
  unfold oweOf pays; rw [List.map_cons, tallyL, add_comm]

/-- The transfers, in the order the program starts them. -/
def order : List Tx :=
  [.z 0, .z 1, .st, .z 2, .z 3, .z 4, .z 5, .z 6, .zR,
   .x1 0, .y1 0, .x1 1, .y1 1, .x1 2, .y1 2, .x1 3, .y1 3, .x1 4, .y1 4, .x1 5, .y1 5, .x1 6, .y1 6, .x2, .y2]

theorem order_nodup : order.Nodup := by decide
theorem univ_order : (Finset.univ : Finset Tx) = order.toFinset := by decide

/-- A wait at level `i` while every transfer still owed stands above it. -/
theorem mayWait (c : Dev nD) (sl : SemLoc sig) (i : ℕ) (l : List Tx) (hi : i < nL) (hl : ∀ t ∈ l, i < lvl t) :
    (levAts (L nL) lv : sProp 𝕄) ⊢ MayWait (c : Thread nD τ) sl i (oweOf c l) :=
  SiteBlocks.mayWait_of hi c sl _ fun g k h => by
    obtain ⟨x, hx, rfl, rfl⟩ := TalkSites.tallyL_pos h
    obtain ⟨t, ht, rfl⟩ := List.mem_map.mp hx
    exact ⟨SiteBlocks.mem_L' rfl (lvl_lt t), hl t ht⟩

end Cert.SoftmaxProof

end
-- ==== Proof.Rules.lean ====
/-
# The rules of the kernel's steps

One rule for each kind of step: start a transfer, wait for one to arrive, wait for one to have left, load, store. Each is
stated for a transfer `t` at large, so that the program's 25 transfers share them.
-/
module

public import proofs.«01_k».proof.Proof.Protocol

@[expose] public section

noncomputable section

namespace Cert.SoftmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

local notation "𝕄" => MT nD τ sig ℕ (Elt F) ℕ UU ℕ

abbrev 𝒱₀ : Variants := Variants.none

/-- A step sequence of the kernel body. -/
abbrev KProg (F : FTy → Type) [FloatOps F] (α : Type) : Type 1 := Prog (TpuEff nD τ sig (Elt F) Λ₀ .tc) α

/-- Device `c` runs `p` safely and ends in `Q`. -/
abbrev wpc {α : Type} (c : Dev nD) (p : KProg F α) (Q : α → sProp 𝕄) : sProp 𝕄 :=
  wp frame (wpE (defs₀ (F := F)) 𝒱₀ (c : Thread nD τ) none) Set.univ p Q

/-! ## The steps, by transfer -/

/-- Device `c` starts transfer `t`. -/
def sendT (t : Tx) (c : Dev nD) : KProg F PUnit :=
  Prog.lift (.enqueueDma (src t) (.remote (Dev.tc (dev t c)) (dst t) (.dma (sS t)) (dst_sc t)) (.dma (rS t)) (src_exact t) (dst_exact t) ⟨⟨rfl, Or.inl rfl⟩, trivial⟩)
/-- It waits for transfer `t` to have arrived. -/
def waitRT (t : Tx) : KProg F PUnit :=
  Prog.lift (.waitDma2 (rS t) (src t) (dst t) (src_exact t) (dst_exact t))
/-- It waits for its transfer `t` to have left. -/
def waitST (t : Tx) : KProg F PUnit :=
  Prog.lift (.waitDma2 (sS t) (dst t) (src t) (dst_exact t) (src_exact t))

/-! ## What a device holds between the steps -/

section Rules

variable (xs : Dev nD → S256x512.Idx → Elt F .f32) (ws : Dev nD → S512x4096.Idx → Elt F .f32)

/-- The records of all cells: the invariant, and that round 0 has begun. -/
def recs (K : Dev nD × Option Ci → ℕ) : sProp 𝕄 :=
  bigSep Finset.univ fun p : Dev nD × Option Ci => iprop(cellInv ER (Rd xs ws) (K p) (kcell p) ∗ reached ER (kcell p) 0)

instance recs_persistent (K : Dev nD × Option Ci → ℕ) : BI.Persistent (recs (F := F) xs ws K) := by unfold recs; infer_instance

/-- What every device knows throughout. -/
def Env : sProp 𝕄 := iprop((∃ K, recs xs ws K) ∗ levAts (L nL) lv)

instance Env_persistent : BI.Persistent (Env (F := F) xs ws) := by unfold Env; infer_instance

theorem recs_at (K : Dev nD × Option Ci → ℕ) (p : Dev nD × Option Ci) :
    recs (F := F) xs ws K ⊢ iprop(cellInv ER (Rd xs ws) (K p) (kcell p) ∗ reached ER (kcell p) 0) := by
  unfold recs; exact bigSep_elim (Finset.mem_univ p)

/-- What device `c` holds towards a transfer it has not started. -/
def Todo (c : Dev nD) (t : Tx) : sProp 𝕄 :=
  iprop(dutyTok ER (sCell t c) 0 0 ∗ dutyTok ER (rCell t (peer t c)) 0 0 ∗ atPos ER (sCell t c) 0 ∅ 0 ∗ Free t (peer t c))
/-- What it holds of a transfer under way. -/
def Snt (c : Dev nD) (t : Tx) : sProp 𝕄 := iprop(cred (tallyAt (sCell t c) 0 (N t)) ∗ atPos ER (sCell t c) 0 ∅ 0)
/-- What it holds of a transfer that is to come. -/
def Rcv (c : Dev nD) (t : Tx) : sProp 𝕄 := iprop(cred (tallyAt (rCell t c) (lvl t) (N t)) ∗ atPos ER (rCell t c) 0 ∅ 0)
/-- Device `c` has the transfers `l` still to start. -/
def Pend (c : Dev nD) (l : List Tx) : sProp 𝕄 :=
  iprop((∃ W, owes (c : Thread nD τ) (oweOf c l) W) ∗ bigSepL l (Todo (F := F) c))

abbrev sZero (c : Dev nD) (t : Tx) : sProp 𝕄 := semVal (sCell t c) 0
abbrev rZero (c : Dev nD) (t : Tx) : sProp 𝕄 := semVal (rCell t c) 0

/-! ## The rules -/

/-- A transfer started: its source's lent share goes in, at contents that will land as they should. -/
theorem wp_sendT (c : Dev nD) (t : Tx) (l : List Tx) {X : (shp t).Idx → Elt F .f32} (hX : Lands xs ws t (peer t c) X)
    {α : Type} {k : PUnit → KProg F α} {Q : α → sProp 𝕄} :
    iprop(Env xs ws ∗ Pend c (t :: l) ∗ owns (c : Thread nD τ) (src t) (lent t) X)
      ⊢ iprop(((Pend c l ∗ Snt c t) -∗ wpc c (k ⟨⟩) Q) -∗ wpc c (sendT t c >>= k) Q) := by
  have key : ∀ (n : Dev nD) (hn : n = peer t c) (W : Waits sig ℕ) (K : Dev nD × Option Ci → ℕ) (fs : Buf (Elt F) ((src t).view.loc (c : Thread nD τ)))
      (fd : Buf (Elt F) ((dst t).view.loc (peer t c : Thread nD τ))) (hfs : (src t).view.read (Elt F) fs = X),
      iprop(cellInv ER (Rd xs ws) (K (c, some (false, t))) (sCell t c) ∗ cellInv ER (Rd xs ws) (K (peer t c, some (true, t))) (rCell t (peer t c))
        ∗ ((src t).view.loc (c : Thread nD τ) ↦[(src t).view.set]{lent t} fs) ∗ ((dst t).view.loc (peer t c : Thread nD τ) ↦[(dst t).view.set]{fullShare} fd)
        ∗ owes (c : Thread nD τ) (oweOf c (t :: l)) W
        ∗ dutyTok ER (sCell t c) 0 0 ∗ reached ER (sCell t c) 0
        ∗ dutyTok ER (rCell t (peer t c)) 0 0 ∗ reached ER (rCell t (peer t c)) 0)
      ⊢ iprop(((cred (tallyAt (sCell t c) 0 (N t)) ∗ owes (c : Thread nD τ) (oweOf c l) W) -∗ wpc c (k ⟨⟩) Q)
          -∗ wpc c (.op (.enqueueDma (src t) (.remote (Dev.tc n) (dst t) (.dma (sS t)) (dst_sc t)) (.dma (rS t)) (src_exact t) (dst_exact t) ⟨⟨rfl, Or.inl rfl⟩, trivial⟩) k) Q) := by
    intro n hn W K fs fd hfs
    subst hn
    exact Rounds.wp_send_pointsTo 𝒱₀ ER (Rd xs ws) (c : Thread nD τ) none (κ₁ := K (c, some (false, t))) (κ₂ := K (peer t c, some (true, t)))
      (r₁ := 0) (r₂ := 0) (d₁ := 0) (d₂ := 0) (fd := fd)
      (by rw [duties_s]; exact Finset.mem_singleton_self _) (by rw [duties_r]; exact Finset.mem_singleton_self _)
      (lvl t) 0 (N t) rfl (amount_s xs ws t c 0) (amount_r xs ws t (peer t c) 0) (oweOf c l) (oweOf_cons c t l) (W := W)
      (by rw [payload_s]; unfold sendPay; exact ownsSat_of _ _ _ trivial)
      (by rw [payload_r]; unfold recvPay; exact ownsSat_of _ _ _ (by rw [hfs, View.read_write_univ]; exact hX))
  unfold Env Pend Todo Free
  rw [bigSepL_cons']
  iintro ⟨⟨⟨%K, #HR⟩, -⟩, ⟨⟨%W, HO⟩, ⟨Htok, Htok', Hat, Hfree⟩, Hl⟩, Hsrc⟩ Hk
  unfold owns ownsSat
  icases Hsrc with ⟨%fs, %hfs, Hsrc⟩
  icases Hfree with ⟨%fd, -, Hfree⟩
  ihave Hs := (recs_at xs ws K (c, some (false, t))) $$ HR
  icases Hs with ⟨HIs, Hrs⟩
  ihave Hr := (recs_at xs ws K (peer t c, some (true, t))) $$ HR
  icases Hr with ⟨HIr, Hrr⟩
  iapply (key (dev t c) (dev_eq_peer t c) W K fs fd hfs) $$ [HIs HIr Hsrc Hfree HO Htok Hrs Htok' Hrr]
  · isplitl [HIs]; · iexact HIs
    isplitl [HIr]; · iexact HIr
    isplitl [Hsrc]; · iexact Hsrc
    isplitl [Hfree]; · iexact Hfree
    isplitl [HO]; · iexact HO
    isplitl [Htok]; · iexact Htok
    isplitl [Hrs]; · iexact Hrs
    isplitl [Htok']; · iexact Htok'
    iexact Hrr
  iintro ⟨Hc, HO⟩
  iapply Hk
  unfold Snt
  isplitl [HO Hl]
  · isplitl [HO]; · iexists W; iexact HO
    iexact Hl
  isplitl [Hc]; · iexact Hc
  iexact Hat

/-- A transfer awaited: its landing buffer comes at the sender's contents, and the cell is closed. -/
theorem wp_waitRT (c : Dev nD) (t : Tx) (l : List Tx) (hl : ∀ t' ∈ l, lvl t < lvl t')
    {α : Type} {k : PUnit → KProg F α} {Q : α → sProp 𝕄} :
    iprop(Env xs ws ∗ Pend c l ∗ Rcv c t)
      ⊢ iprop(((Pend c l ∗ rZero c t ∗ recvPay xs ws t c) -∗ wpc c (k ⟨⟩) Q) -∗ wpc c (waitRT t >>= k) Q) := by
  unfold Env Pend Rcv
  iintro ⟨⟨⟨%K, #HR⟩, #Hlev⟩, ⟨⟨%W, HO⟩, Hl⟩, Hc, Hat⟩ Hk
  ihave Hr := (recs_at xs ws K (c, some (true, t))) $$ HR
  icases Hr with ⟨#HI, -⟩
  iapply (Rounds.wp_wait_rest_token 𝒱₀ ER (Rd xs ws) (c : Thread nD τ) none (κ := K (c, some (true, t)))
      (wpE_waitDma2_eq 𝒱₀ (c : Thread nD τ) none Set.univ) (Set.mem_univ _) (lvl t) (O := oweOf c l) (W := W) (R := 0) (m := 0) (T := ∅)
      (by rw [Nat.zero_add]; exact (expect_r xs ws t c).symm) (k := k)) $$ [Hc HO Hat]
  · isplitr; · iexact HI
    isplitl [Hc]; · iexact Hc
    isplitl [HO]; · iexact HO
    isplitr; · iapply (mayWait c (.dma (rS t)) (lvl t) l (lvl_lt t) hl); iexact Hlev
    iexact Hat
  iintro ⟨HO, Hat, -, Hpay⟩
  ihave Hpay := (Entails.of_eq (rest_r xs ws t c)) $$ Hpay
  imod (Rounds.cell_close ER (Rd xs ws) (Set.mem_univ (K (c, some (true, t)))) (fun h => h) (R := 0 + 1) (duties_later xs ws (rCell t c))) $$ [Hat] with Hz
  · isplitr; · iexact HI
    iexact Hat
  iapply Hk
  isplitl [HO Hl]
  · isplitl [HO]; · iexists _; iexact HO
    iexact Hl
  isplitl [Hz]; · iexact Hz
  iexact Hpay

/-- A device that has started everything waits for a transfer of its own to have left: the source's lent share is back. -/
theorem wp_waitST (c : Dev nD) (t : Tx) {α : Type} {k : PUnit → KProg F α} {Q : α → sProp 𝕄} :
    iprop(Env xs ws ∗ Pend c [] ∗ Snt c t)
      ⊢ iprop(((Pend c [] ∗ sZero c t ∗ sendPay t c) -∗ wpc c (k ⟨⟩) Q) -∗ wpc c (waitST t >>= k) Q) := by
  unfold Env Pend Snt
  iintro ⟨⟨⟨%K, #HR⟩, #Hlev⟩, ⟨⟨%W, HO⟩, Hl⟩, Hc, Hat⟩ Hk
  ihave Hr := (recs_at xs ws K (c, some (false, t))) $$ HR
  icases Hr with ⟨#HI, -⟩
  rw [← src_credit]
  iapply (Rounds.wp_wait_rest_token 𝒱₀ ER (Rd xs ws) (c : Thread nD τ) none (κ := K (c, some (false, t)))
      (wpE_waitDma2_eq 𝒱₀ (c : Thread nD τ) none Set.univ) (Set.mem_univ _) 0 (O := oweOf c []) (W := W) (R := 0) (m := 0) (T := ∅)
      (by rw [Nat.zero_add, src_credit]; exact (expect_s xs ws t c).symm) (k := k)) $$ [Hc HO Hat]
  · isplitr; · iexact HI
    isplitl [Hc]; · iexact Hc
    isplitl [HO]; · iexact HO
    isplitr; · iapply (mayWait c (.dma (sS t)) 0 [] (by decide) (fun _ h => absurd h List.not_mem_nil)); iexact Hlev
    iexact Hat
  iintro ⟨HO, Hat, -, Hpay⟩
  ihave Hpay := (Entails.of_eq (rest_s xs ws t c)) $$ Hpay
  imod (Rounds.cell_close ER (Rd xs ws) (Set.mem_univ (K (c, some (false, t)))) (fun h => h) (R := 0 + 1) (duties_later xs ws (sCell t c))) $$ [Hat] with Hz
  · isplitr; · iexact HI
    iexact Hat
  iapply Hk
  isplitl [HO Hl]
  · isplitl [HO]; · iexists _; iexact HO
    iexact Hl
  isplitl [Hz]; · iexact Hz
  iexact Hpay

end Rules

/-! ## Loads and stores of an owned memref -/

section Mem

variable (c : Dev nD) {s : Shape} (m : Memref sig .tc .vmem s .f32) (r : Rect s)

theorem wp_loadR (hl : m.view.LoadsAt r.toLoadRect) {q : PosShare TreeShare} {X : s.Idx → Elt F .f32}
    {α : Type} {k : (r.shape.Idx → Elt F .f32) → KProg F α} {Q : α → sProp 𝕄} :
    owns (c : Thread nD τ) m q X
      ⊢ iprop((owns (c : Thread nD τ) m q X -∗ wpc c (k fun j => X (r.emb j)) Q) -∗ wpc c (Prog.lift (.load m r.toLoadRect hl) >>= k) Q) := by
  unfold owns
  iintro ⟨%f, %hf, H⟩ Hk
  subst hf
  iapply (wp_load_rect 𝒱₀ (c : Thread nD τ) none Set.univ (m := m) (r := r) (k := k) (m.view.set_slice_subset r)) $$ H
  iintro H
  iapply Hk
  iexists f; isplitr; · ipureintro; rfl
  iexact H

theorem wp_storeR (w : r.shape.Idx → Elt F .f32) (hx : (m.access r).Stores Finset.univ) (hm : (Finset.univ : Finset r.shape.Idx) = Finset.univ ∨ ∀ a, r.stride a = 1)
    {X : s.Idx → Elt F .f32} {α : Type} {k : PUnit → KProg F α} {Q : α → sProp 𝕄} :
    owns (c : Thread nD τ) m fullShare X
      ⊢ iprop((owns (c : Thread nD τ) m fullShare (r.overlay X w) -∗ wpc c (k ⟨⟩) Q) -∗ wpc c (Prog.lift (.store m r w Finset.univ hx hm) >>= k) Q) := by
  unfold owns
  iintro ⟨%f, %hf, H⟩ Hk
  subst hf
  iapply (wp_store 𝒱₀ (c : Thread nD τ) none Set.univ (m := m) (r := r) (Mk := Finset.univ) (k := k) (m.view.set_slice_subset r)) $$ H
  iintro H
  iapply Hk
  iexists ((m.access r).write (Elt F) f w Finset.univ); isplitr
  · ipureintro
    funext j
    by_cases hj : j ∈ r.set
    · obtain ⟨i, rfl⟩ := r.exists_idx_of_mem hj
      exact (View.read_slice_write_emb r f w (Finset.mem_univ i)).trans (Rect.overlay_emb r _ w i).symm
    · rw [Rect.overlay_of_not_mem _ _ _ hj]
      exact View.read_slice_write_of_not_mem r f w Finset.univ (by rw [Rect.map_emb_univ]; exact hj)
  iexact H

end Mem

end Cert.SoftmaxProof

end
-- ==== Proof.Program.lean ====
/-
# The kernel body by phases

The body as this proof reads it: the local matmul and statistics with the opening barrier, then the transfers, as loops over
lists of transfers, with the stores into the result between them.
-/
module

public import proofs.«01_k».proof.Proof.Rules
public import proofs.«01_k».proof.Proof.Gen.KernelIdeal.Points

@[expose] public section

noncomputable section

namespace Cert.SoftmaxProof

open Cert.KernelIdeal Cert.KernelIdeal.Gen

open Idealize.ShloMosaic
open Idealize.ShloMosaic.TcCoe
open Idealize.SL Idealize.SL.Sem

variable {F : FTy → Type} [FloatOps F]

/-! ## The rectangles the body reads and writes -/

abbrev wX : Rect S256x512 := Rect.unit (s := S256x512) ![0, 0] S256x512.size inb_S256x512_S256x512_0_0
abbrev wW : Rect S512x4096 := Rect.unit (s := S512x4096) ![0, 0] S512x4096.size inb_S512x4096_S512x4096_0_0
abbrev wL : Rect S256x4096 := Rect.unit (s := S256x4096) ![0, 0] S256x4096.size inb_S256x4096_S256x4096_0_0
abbrev wU : Rect S256x896 := Rect.unit (s := S256x896) ![0, 0] S256x896.size inb_S256x896_S256x896_0_0

/-- The six pieces of the result, by the payload stored there. -/
abbrev o2 (c : Dev nD) : Rect S256x8192 := Rect.unit (s := S256x8192) (k0_off2 c) S256x4096.size (k0_off2_inb c)
abbrev o3 (c : Dev nD) : Rect S256x8192 := Rect.unit (s := S256x8192) (k0_off3 c) S256x896.size (k0_off3_inb c)
abbrev o4 (c : Dev nD) : Rect S256x8192 := Rect.unit (s := S256x8192) (k0_off4 c) S256x896.size (k0_off4_inb c)
abbrev o5 (c : Dev nD) : Rect S256x8192 := Rect.unit (s := S256x8192) (k0_off5 c) S256x896.size (k0_off5_inb c)
abbrev o6 (c : Dev nD) : Rect S256x8192 := Rect.unit (s := S256x8192) (k0_off6 c) S256x512.size (k0_off6_inb c)
abbrev o7 (c : Dev nD) : Rect S256x8192 := Rect.unit (s := S256x8192) (k0_off7 c) S256x896.size (k0_off7_inb c)

/-- A load and a store of a rectangle; a store reads the old contents first and drops them. -/
abbrev ld {s : Shape} (m : Memref sig .tc .vmem s .f32) (r : Rect s) (h : 0 < r.shape.numel) : KProg F (r.shape.Idx → Elt F .f32) :=
  Prog.lift (.load m r.toLoadRect (View.loadsAt_vmem h))
abbrev sto {s : Shape} (m : Memref sig .tc .vmem s .f32) (r : Rect s) (h : 0 < r.shape.numel) (w : r.shape.Idx → Elt F .f32)
    (hx : (m.access r).Stores Finset.univ := by exact View.stores_vmem_bits_univ (by assumption) rfl) : KProg F PUnit := do
  let _ ← ld m r h
  Prog.lift (.store m r w Finset.univ hx (.inl rfl))

/-! ## The phases -/

/-- The device signalled by signal `i`. -/
def sigDev : Fin 3 → Dev nD → Dev nD
  | 0, d => ⟨k0_dev1 d, k0_dev1_lt d⟩
  | 1, d => ⟨k0_dev2 d, k0_dev2_lt d⟩
  | 2, d => ⟨k0_dev3 d, k0_dev3_lt d⟩

theorem sigDev_eq : ∀ (i : Fin 3) (d : Dev nD), sigDev i d = nbr i d
  | 0, d => dev1_eq d
  | 1, d => dev2_eq d
  | 2, d => dev3_eq d

def sigP (i : Fin 3) (d : Dev nD) : KProg F PUnit := semSignalWord (sigDev i d) barS 1#32
def waitB : KProg F PUnit := semWaitWord barS 3#32

/-- The logits, what is to be sent of them, and the statistics. -/
def locP (d : Dev nD) : KProg F ((S256x4096.Idx → Elt F .f32) × (S256x4096.Idx → Elt F .f32)) := do
  let x ← ld xM wX h_S256x512
  let w ← ld wM wW h_S512x4096
  sto lgM wL h_S256x4096 (k0_pay1 x w) (View.stores_vmem_bits_univ h_S256x4096 rfl)
  let u ← ld lgM (rU d) h_S256x896
  sto usM wU h_S256x896 (k0_pay2 u) (View.stores_vmem_bits_univ h_S256x896 rfl)
  let r ← ld lgM rR h_S256x512
  sto rsM wX h_S256x512 (k0_pay3 r) (View.stores_vmem_bits_univ h_S256x512 rfl)
  let a ← ld lgM wL h_S256x4096
  let b ← ld lgM wL h_S256x4096
  sto ssM rc0 h_S256x1 (k0_pay6 a) (View.stores_vmem_bits_univ h_S256x1 rfl)
  sto ssM rc1 h_S256x1 (k0_pay7 a b) (View.stores_vmem_bits_univ h_S256x1 rfl)
  pure (a, b)

/-- Start the transfers of a list; wait for them to arrive; wait for them to have left. -/
def sends (d : Dev nD) : List Tx → KProg F PUnit
  | [] => pure ⟨⟩
  | t :: l => do sendT t d; sends d l
def waitsR : List Tx → KProg F PUnit
  | [] => pure ⟨⟩
  | t :: l => do waitRT t; waitsR l
def waitsS : List Tx → KProg F PUnit
  | [] => pure ⟨⟩
  | t :: l => do waitST t; waitsS l
/-- Each slice that arrives goes on to both neighbours of the square. -/
def relay (d : Dev nD) : List (Fin 7) → KProg F PUnit
  | [] => pure ⟨⟩
  | s :: l => do waitRT (.z s); sendT (.x1 s) d; sendT (.y1 s) d; relay d l

/-- The statistics of the other half, combined with the own ones; the first two pieces of the result. -/
def ownP (d : Dev nD) (a b : S256x4096.Idx → Elt F .f32) : KProg F ((S256x1.Idx → Elt F .f32) × (S256x1.Idx → Elt F .f32)) := do
  let m ← ld srM rc0 h_S256x1
  let s ← ld srM rc1 h_S256x1
  let l ← ld lgM wL h_S256x4096
  sto oM (o2 d) h_S256x4096 (k0_pay10 (k0_pay4 a) (k0_pay5 a b) m s l) (View.stores_vmem_bits_univ h_S256x4096 rfl)
  let u ← ld urM wU h_S256x896
  sto oM (o3 d) h_S256x896 (k0_pay11 (k0_pay8 (k0_pay4 a) m) (k0_pay9 (k0_pay4 a) (k0_pay5 a b) m s) u) (View.stores_vmem_bits_univ h_S256x896 rfl)
  pure (k0_pay8 (k0_pay4 a) m, k0_pay9 (k0_pay4 a) (k0_pay5 a b) m s)

abbrev xHi : List Tx := [.x1 4, .x1 5, .x1 6]
abbrev xLo : List Tx := [.x1 0, .x1 1, .x1 2, .x1 3]
abbrev yHi : List Tx := [.y1 4, .y1 5, .y1 6]
abbrev yLo : List Tx := [.y1 0, .y1 1, .y1 2, .y1 3]

/-- The transfers in the order their departure is awaited. -/
def leave : List Tx :=
  [.z 0, .z 1, .z 2, .z 3, .z 4, .z 5, .z 6, .x1 0, .x1 1, .x1 2, .x1 3, .x1 4, .x1 5, .x1 6,
   .y1 0, .y1 1, .y1 2, .y1 3, .y1 4, .y1 5, .y1 6, .zR, .x2, .y2, .st]

/-- What follows the statistics: the pieces of the result as they arrive. -/
def restP (d : Dev nD) (M S : S256x1.Idx → Elt F .f32) : KProg F PUnit := do
  waitsR xHi
  sendT .y2 d
  waitsR xLo
  let x ← ld xrM wU h_S256x896
  sto oM (o4 d) h_S256x896 (k0_pay12 M S x) (View.stores_vmem_bits_univ h_S256x896 rfl)
  waitsR yHi
  let y ← ld yrM wU h_S256x896
  sto oM (o5 d) h_S256x896 (k0_pay13 M S y) (View.stores_vmem_bits_univ h_S256x896 rfl)
  waitRT .zR
  let r ← ld rrM wX h_S256x512
  sto oM (o6 d) h_S256x512 (k0_pay14 M S r) (View.stores_vmem_bits_univ h_S256x512 rfl)
  waitRT .x2
  waitRT .y2
  let e ← ld drM wU h_S256x896
  sto oM (o7 d) h_S256x896 (k0_pay15 M S e) (View.stores_vmem_bits_univ h_S256x896 rfl)
  waitsS leave

/-- The body. -/
def bodyP : KProg F PUnit := do
  let d : Dev nD ← Prog.lift .deviceId
  sigP 0 d
  sigP 1 d
  sigP 2 d
  let ab ← locP d
  waitB
  sends d [.z 0, .z 1, .st, .z 2, .z 3, .z 4, .z 5, .z 6, .zR]
  relay d [0, 1, 2, 3, 4, 5, 6]
  waitsR yLo
  sendT .x2 d
  waitRT .st
  let MS ← ownP d ab.1 ab.2
  restP d MS.1 MS.2

set_option maxRecDepth 65536 in
set_option maxHeartbeats 4000000 in
theorem body_eq (t : Fin cfg0.N) : bodyAt0 (F := F) t = bodyP := by
  unfold bodyAt0
  rw [cc0_body_eq_skeleton]
  rfl

end Cert.SoftmaxProof

end
-- ==== Proof.Pieces.lean ====
/-
# Loops of steps, and buffers by pieces

The rules of the barrier; the rules of the body's loops, by induction on their lists; and how a buffer of 896 columns is held
by its seven slices, or by its lower and upper part.
-/
module

public import proofs.«01_k».proof.Proof.Program
public import Idealize.ShloMosaic.Lib.Pipeline.TalkSched

@[expose] public section

noncomputable section

namespace Cert.SoftmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

local notation "𝕄" => MT nD τ sig ℕ (Elt F) ℕ UU ℕ

/-! ## Chains over lists -/

theorem chain_sep {I : Type} (l : List I) (Φ Ψ : I → sProp 𝕄) : bigSepL l (fun i => iprop(Φ i ∗ Ψ i)) = iprop(bigSepL l Φ ∗ bigSepL l Ψ) := by
  induction l with
  | nil => exact (equiv_iff.mp emp_sep).symm
  | cons i l ih =>
    rw [bigSepL_cons', bigSepL_cons', bigSepL_cons', ih]
    have h1 : iprop((Φ i ∗ Ψ i) ∗ bigSepL l Φ ∗ bigSepL l Ψ) ⊢ (iprop((Φ i ∗ bigSepL l Φ) ∗ Ψ i ∗ bigSepL l Ψ) : sProp 𝕄) := by
      iintro ⟨⟨H1, H2⟩, H3, H4⟩
      isplitl [H1 H3]; · isplitl [H1] <;> iassumption
      isplitl [H2] <;> iassumption
    have h2 : iprop((Φ i ∗ bigSepL l Φ) ∗ Ψ i ∗ bigSepL l Ψ) ⊢ (iprop((Φ i ∗ Ψ i) ∗ bigSepL l Φ ∗ bigSepL l Ψ) : sProp 𝕄) := by
      iintro ⟨⟨H1, H3⟩, H2, H4⟩
      isplitl [H1 H2]; · isplitl [H1] <;> iassumption
      isplitl [H3] <;> iassumption
    exact h1.antisymm h2

theorem chain_perm {I : Type} [DecidableEq I] {l l' : List I} (h : l.Perm l') (hn : l.Nodup) (Φ : I → sProp 𝕄) : bigSepL l Φ = bigSepL l' Φ :=
  TalkSites.bigSepL_perm h hn Φ

theorem chain_univ {I : Type} [DecidableEq I] [Fintype I] (l : List I) (hl : Finset.univ = l.toFinset) (hn : l.Nodup) (Φ : I → sProp 𝕄) :
    bigSep Finset.univ Φ = bigSepL l Φ := bigSep_univ_eq_bigSepL l hl hn Φ

/-! ## The barrier -/

section Rules

variable (xs : Dev nD → S256x512.Idx → Elt F .f32) (ws : Dev nD → S512x4096.Idx → Elt F .f32)

/-- The unit device `c` owes its neighbour `i`'s barrier. -/
abbrev owB (c : Dev nD) (i : Fin 3) : CellTallies nD τ sig ℕ := tallyAt (barCell (nbr i c)) 1 1

theorem wp_sigP (c : Dev nD) (i : Fin 3) (O : CellTallies nD τ sig ℕ) {α : Type} {k : PUnit → KProg F α} {Q : α → sProp 𝕄} :
    iprop(Env xs ws ∗ (∃ W, owes (c : Thread nD τ) (O + owB c i) W) ∗ dutyTok ER (barCell (nbr i c)) 0 i ∗ barPay (nbr i c) i)
      ⊢ iprop(((∃ W, owes (c : Thread nD τ) O W) -∗ wpc c (k ⟨⟩) Q) -∗ wpc c (sigP i c >>= k) Q) := by
  have key : ∀ (n : Dev nD) (hn : n = nbr i c) (W : Waits sig ℕ) (K : Dev nD × Option Ci → ℕ),
      iprop(cellInv ER (Rd xs ws) (K (nbr i c, none)) (barCell (nbr i c)) ∗ owes (c : Thread nD τ) (O + owB c i) W
          ∗ dutyTok ER (barCell (nbr i c)) 0 i ∗ barPay (nbr i c) i ∗ reached ER (barCell (nbr i c)) 0)
        ⊢ iprop((owes (c : Thread nD τ) O W -∗ wpc c (k ⟨⟩) Q) -∗ wpc c (.op (.semSignal (n : Thread nD τ) barS (1#32 : BitVec 32).toInt) k) Q) := by
    intro n hn W K
    subst hn
    exact Rounds.wp_signal 𝒱₀ ER (Rd xs ws) (c : Thread nD τ) none (dst := (nbr i c : Thread nD τ)) (κ := K (nbr i c, none))
      (d := i) (by rw [duties_bar]; exact Finset.mem_univ _) ((amount_bar xs ws (nbr i c) i).trans (by decide)) 1 O rfl
  unfold Env
  iintro ⟨⟨⟨%K, #HR⟩, -⟩, ⟨%W, HO⟩, Htok, Hpay⟩ Hk
  ihave Hr := (recs_at xs ws K (nbr i c, none)) $$ HR
  icases Hr with ⟨HI, Hrr⟩
  iapply (key (sigDev i c) (sigDev_eq i c) W K) $$ [HI HO Htok Hpay Hrr]
  · isplitl [HI]; · iexact HI
    isplitl [HO]; · iexact HO
    isplitl [Htok]; · iexact Htok
    isplitl [Hpay]; · iexact Hpay
    iexact Hrr
  iintro HO
  iapply Hk
  iexists W; iexact HO

theorem wp_waitB (c : Dev nD) {α : Type} {k : PUnit → KProg F α} {Q : α → sProp 𝕄} :
    iprop(Env xs ws ∗ (∃ W, owes (c : Thread nD τ) (oweOf c order) W) ∗ cred (tallyAt (barCell c) 1 3) ∗ atPos ER (barCell c) 0 ∅ 0)
      ⊢ iprop((((∃ W, owes (c : Thread nD τ) (oweOf c order) W) ∗ semVal (barCell c) 0 ∗ barPay c 0 ∗ barPay c 1 ∗ barPay c 2) -∗ wpc c (k ⟨⟩) Q)
          -∗ wpc c (waitB >>= k) Q) := by
  unfold Env
  iintro ⟨⟨⟨%K, #HR⟩, #Hlev⟩, ⟨%W, HO⟩, Hc, Hat⟩ Hk
  ihave Hr := (recs_at xs ws K (c, none)) $$ HR
  icases Hr with ⟨#HI, -⟩
  iapply (Rounds.wp_wait_rest_token 𝒱₀ ER (Rd xs ws) (c : Thread nD τ) none (κ := K (c, none))
      (wpE_semWait_eq 𝒱₀ (c : Thread nD τ) none Set.univ) (Set.mem_univ _) 1 (O := oweOf c order) (W := W) (R := 0) (m := 0) (T := ∅)
      (by rw [expect_bar]; decide) (k := k)) $$ [Hc HO Hat]
  · isplitr; · iexact HI
    isplitl [Hc]; · iexact Hc
    isplitl [HO]; · iexact HO
    isplitr; · iapply (mayWait c (.reg barS) 1 order (by decide) (by decide)); iexact Hlev
    iexact Hat
  iintro ⟨HO, Hat, -, Hpay⟩
  ihave Hpay := (Entails.of_eq (rest_bar xs ws c)) $$ Hpay
  imod (Rounds.cell_close ER (Rd xs ws) (Set.mem_univ (K (c, none))) (fun h => h) (R := 0 + 1) (duties_later xs ws (barCell c))) $$ [Hat] with Hz
  · isplitr; · iexact HI
    iexact Hat
  iapply Hk
  isplitl [HO]; · iexists _; iexact HO
  isplitl [Hz]; · iexact Hz
  iexact Hpay

/-! ## The loops -/

/-- The source of transfer `t` on device `c`, ready to leave. -/
def Ready (c : Dev nD) (t : Tx) : sProp 𝕄 := iprop(∃ X, ⌜Lands xs ws t (peer t c) X⌝ ∗ owns (c : Thread nD τ) (src t) (lent t) X)

theorem wp_sends (c : Dev nD) (l' : List Tx) {α : Type} {k : PUnit → KProg F α} {Q : α → sProp 𝕄} : ∀ l : List Tx,
    iprop(Env xs ws ∗ Pend c (l ++ l') ∗ bigSepL l (Ready xs ws c))
      ⊢ iprop(((Pend c l' ∗ bigSepL l (Snt c)) -∗ wpc c (k ⟨⟩) Q) -∗ wpc c (sends c l >>= k) Q)
  | [] => by
    iintro ⟨-, HP, Hl⟩ Hk
    iapply Hk
    isplitl [HP]; · iexact HP
    iexact Hl
  | t :: l => by
    rw [show (sends c (t :: l) >>= k : KProg F α) = (sendT t c >>= fun _ => sends c l >>= k) from bind_assoc _ _ _, bigSepL_cons', bigSepL_cons', List.cons_append]
    unfold Ready
    iintro ⟨#HE, HP, ⟨%X, %hX, Hs⟩, Hl⟩ Hk
    iapply (wp_sendT xs ws c t (l ++ l') hX) $$ [HP Hs]
    · isplitr; · iexact HE
      isplitl [HP] <;> iassumption
    iintro ⟨HP, Hsn⟩
    iapply (wp_sends c l' l) $$ [HP Hl]
    · isplitr; · iexact HE
      isplitl [HP]; · iexact HP
      iexact Hl
    iintro ⟨HP, Hsl⟩
    iapply Hk
    isplitl [HP]; · iexact HP
    isplitl [Hsn] <;> iassumption

theorem wp_waitsR (c : Dev nD) (l' : List Tx) {α : Type} {k : PUnit → KProg F α} {Q : α → sProp 𝕄} : ∀ (l : List Tx) (hl : ∀ t ∈ l, ∀ t' ∈ l', lvl t < lvl t'),
    iprop(Env xs ws ∗ Pend c l' ∗ bigSepL l (Rcv c))
      ⊢ iprop(((Pend c l' ∗ bigSepL l (rZero c) ∗ bigSepL l fun t => recvPay xs ws t c) -∗ wpc c (k ⟨⟩) Q) -∗ wpc c (waitsR l >>= k) Q)
  | [], _ => by
    iintro ⟨-, HP, Hl⟩ Hk
    iapply Hk
    isplitl [HP]; · iexact HP
    isplitl [Hl]; · iexact Hl
    iempintro
  | t :: l, hl => by
    rw [show (waitsR (t :: l) >>= k : KProg F α) = (waitRT t >>= fun _ => waitsR l >>= k) from bind_assoc _ _ _, bigSepL_cons', bigSepL_cons', bigSepL_cons']
    iintro ⟨#HE, HP, Hr, Hl⟩ Hk
    iapply (wp_waitRT xs ws c t l' (hl t List.mem_cons_self)) $$ [HP Hr]
    · isplitr; · iexact HE
      isplitl [HP] <;> iassumption
    iintro ⟨HP, Hz, Hp⟩
    iapply (wp_waitsR c l' l fun t' h => hl t' (List.mem_cons_of_mem _ h)) $$ [HP Hl]
    · isplitr; · iexact HE
      isplitl [HP] <;> iassumption
    iintro ⟨HP, Hzl, Hpl⟩
    iapply Hk
    isplitl [HP]; · iexact HP
    isplitl [Hz Hzl]; · isplitl [Hz] <;> iassumption
    isplitl [Hp] <;> iassumption

theorem wp_waitsS (c : Dev nD) {α : Type} {k : PUnit → KProg F α} {Q : α → sProp 𝕄} : ∀ l : List Tx,
    iprop(Env xs ws ∗ Pend c [] ∗ bigSepL l (Snt c))
      ⊢ iprop(((Pend c [] ∗ bigSepL l (sZero c) ∗ bigSepL l fun t => sendPay t c) -∗ wpc c (k ⟨⟩) Q) -∗ wpc c (waitsS l >>= k) Q)
  | [] => by
    iintro ⟨-, HP, Hl⟩ Hk
    iapply Hk
    isplitl [HP]; · iexact HP
    isplitl [Hl]; · iexact Hl
    iempintro
  | t :: l => by
    rw [show (waitsS (t :: l) >>= k : KProg F α) = (waitST t >>= fun _ => waitsS l >>= k) from bind_assoc _ _ _, bigSepL_cons', bigSepL_cons', bigSepL_cons']
    iintro ⟨#HE, HP, Hr, Hl⟩ Hk
    iapply (wp_waitST xs ws c t) $$ [HP Hr]
    · isplitr; · iexact HE
      isplitl [HP] <;> iassumption
    iintro ⟨HP, Hz, Hp⟩
    iapply (wp_waitsS c l) $$ [HP Hl]
    · isplitr; · iexact HE
      isplitl [HP] <;> iassumption
    iintro ⟨HP, Hzl, Hpl⟩
    iapply Hk
    isplitl [HP]; · iexact HP
    isplitl [Hz Hzl]; · isplitl [Hz] <;> iassumption
    isplitl [Hp] <;> iassumption

/-- What is left of a slice that has been sent on twice. -/
abbrev Third (c : Dev nD) (s : Fin 7) : sProp 𝕄 :=
  owns (c : Thread nD τ) (urM.slice (rz s) (fun _ => rfl)) fullShare.right.right fun j => us xs ws (zp c) ((rz s).emb j)

theorem wp_relay (c : Dev nD) (l' : List Tx) (hl' : ∀ t ∈ l', 2 < lvl t) {α : Type} {k : PUnit → KProg F α} {Q : α → sProp 𝕄} : ∀ l : List (Fin 7),
    iprop(Env xs ws ∗ Pend c ((l.flatMap fun s => [.x1 s, .y1 s]) ++ l') ∗ bigSepL l (fun s => Rcv c (.z s)))
      ⊢ iprop(((Pend c l' ∗ bigSepL l (fun s => rZero c (.z s)) ∗ bigSepL l (fun s => Snt c (.x1 s)) ∗ bigSepL l (fun s => Snt c (.y1 s)) ∗ bigSepL l (Third xs ws c))
          -∗ wpc c (k ⟨⟩) Q) -∗ wpc c (relay c l >>= k) Q)
  | [] => by
    iintro ⟨-, HP, Hl⟩ Hk
    iapply Hk
    isplitl [HP]; · iexact HP
    isplitl [Hl]; · iexact Hl
    isplitr; · iempintro
    isplitr <;> iempintro
  | s :: l => by
    have hlow : ∀ t ∈ ((s :: l).flatMap fun s => [Tx.x1 s, Tx.y1 s]) ++ l', lvl (.z s) < lvl t := by
      intro t ht
      rcases List.mem_append.mp ht with h | h
      · obtain ⟨s', -, h'⟩ := List.mem_flatMap.mp h
        rcases List.mem_cons.mp h' with rfl | h''
        · exact (by decide : (2 : ℕ) < 3)
        · rw [List.mem_singleton.mp h'']; exact (by decide : (2 : ℕ) < 3)
      · exact hl' t h
    have hprog : (relay c (s :: l) >>= k : KProg F α) = (waitRT (.z s) >>= fun _ => sendT (.x1 s) c >>= fun _ => sendT (.y1 s) c >>= fun _ => relay c l >>= k) := by
      simp only [relay, bind_assoc]
    rw [hprog, bigSepL_cons', bigSepL_cons', bigSepL_cons', bigSepL_cons', bigSepL_cons']
    iintro ⟨#HE, HP, Hr, Hl⟩ Hk
    iapply (wp_waitRT xs ws c (.z s) _ hlow) $$ [HP Hr]
    · isplitr; · iexact HE
      isplitl [HP] <;> iassumption
    iintro ⟨HP, Hz, Hp⟩
    unfold recvPay
    ihave Hp := (ownsSat_elim (c : Thread nD τ) (dst (.z s)) fullShare _) $$ Hp
    icases Hp with ⟨%X, %hX, Hp⟩
    have hX' : X = fun j => us xs ws (zp c) ((rz s).emb j) := hX
    subst hX'
    ihave Hp := (owns_halves (c : Thread nD τ) (dst (.z s)) fullShare _).1 $$ Hp
    icases Hp with ⟨Hp1, Hp⟩
    ihave Hp := (owns_halves (c : Thread nD τ) (dst (.z s)) fullShare.right _).1 $$ Hp
    icases Hp with ⟨Hp2, Hp3⟩
    iapply (wp_sendT xs ws c (.x1 s) (.y1 s :: ((l.flatMap fun s => [.x1 s, .y1 s]) ++ l')) (X := fun j => us xs ws (zp c) ((rz s).emb j))
      (show _ = _ by rw [show xn (peer (.x1 s) c) = c from xn_xn c]; rfl)) $$ [HP Hp1]
    · isplitr; · iexact HE
      isplitl [HP]; · iexact HP
      iexact Hp1
    iintro ⟨HP, Hs1⟩
    iapply (wp_sendT xs ws c (.y1 s) ((l.flatMap fun s => [.x1 s, .y1 s]) ++ l') (X := fun j => us xs ws (zp c) ((rz s).emb j))
      (show _ = _ by rw [show yn (peer (.y1 s) c) = c from yn_yn c]; rfl)) $$ [HP Hp2]
    · isplitr; · iexact HE
      isplitl [HP]; · iexact HP
      iexact Hp2
    iintro ⟨HP, Hs2⟩
    iapply (wp_relay c l' hl' l) $$ [HP Hl]
    · isplitr; · iexact HE
      isplitl [HP] <;> iassumption
    iintro ⟨HP, Hz', Hs1', Hs2', Hp'⟩
    iapply Hk
    isplitl [HP]; · iexact HP
    isplitl [Hz Hz']; · isplitl [Hz] <;> iassumption
    isplitl [Hs1 Hs1']; · isplitl [Hs1] <;> iassumption
    isplitl [Hs2 Hs2']; · isplitl [Hs2] <;> iassumption
    isplitl [Hp3]; · iexact Hp3
    iexact Hp'

end Rules

/-! ## Whole rectangles -/

theorem unit_emb {S : Shape} {off : Fin S.rank → Nat} (h : off = fun _ => 0) (inb : ∀ a, off a + S.size a ≤ S.size a) (j : S.Idx) :
    (Rect.unit off S.size inb).emb j = j := by
  subst h; exact funext fun a => Fin.ext (by show 0 + 1 * (j a : ℕ) = j a; omega)

theorem unit_overlay {S : Shape} {A : Type} {off : Fin S.rank → Nat} (h : off = fun _ => 0) (inb : ∀ a, off a + S.size a ≤ S.size a) (X w : S.Idx → A) :
    (Rect.unit off S.size inb).overlay X w = w := funext fun j => by
  have := Rect.overlay_emb (Rect.unit off S.size inb) X w j
  rwa [unit_emb h inb j] at this

theorem zz : (![0, 0] : Fin 2 → ℕ) = fun _ => 0 := funext (Fin.forall_fin_two.mpr ⟨rfl, rfl⟩)

section Mem

variable (c : Dev nD) {s : Shape} (m : Memref sig .tc .vmem s .f32)

/-- A load of the whole. -/
theorem wp_ldW {off : Fin s.rank → Nat} (h0 : off = fun _ => 0) (inb : ∀ a, off a + s.size a ≤ s.size a)
    (h : 0 < (Rect.unit off s.size inb).shape.numel) {q : PosShare TreeShare} {X : s.Idx → Elt F .f32}
    {α : Type} {k : (s.Idx → Elt F .f32) → KProg F α} {Q : α → sProp 𝕄} :
    owns (c : Thread nD τ) m q X
      ⊢ iprop((owns (c : Thread nD τ) m q X -∗ wpc c (k X) Q) -∗ wpc c ((ld m (Rect.unit off s.size inb) h : KProg F (s.Idx → Elt F .f32)) >>= k) Q) := by
  have e : (fun j => X ((Rect.unit off s.size inb).emb j)) = X := funext fun j => congrArg X (unit_emb h0 inb j)
  have := wp_loadR c m (Rect.unit off s.size inb) (View.loadsAt_vmem h) (q := q) (X := X) (k := k) (Q := Q)
  rw [e] at this
  exact this

/-- A store into a rectangle, at a memref held at some contents. -/
theorem wp_sto (r : Rect s) (h : 0 < r.shape.numel) (w : r.shape.Idx → Elt F .f32) (hx : (m.access r).Stores Finset.univ)
    {X : s.Idx → Elt F .f32} {α : Type} {k : PUnit → KProg F α} {Q : α → sProp 𝕄} :
    owns (c : Thread nD τ) m fullShare X
      ⊢ iprop((owns (c : Thread nD τ) m fullShare (r.overlay X w) -∗ wpc c (k ⟨⟩) Q) -∗ wpc c (sto m r h w hx >>= k) Q) := by
  rw [show (sto m r h w hx >>= k : KProg F α) = (ld m r h >>= fun _ => (Prog.lift (.store m r w Finset.univ hx (.inl rfl)) : KProg F PUnit) >>= k) from bind_assoc _ _ _]
  iintro H Hk
  iapply (wp_loadR c m r (View.loadsAt_vmem h)) $$ H
  iintro H
  iapply (wp_storeR c m r w hx (.inl rfl)) $$ H
  iexact Hk

/-- A store of the whole. -/
theorem wp_stoW {off : Fin s.rank → Nat} (h0 : off = fun _ => 0) (inb : ∀ a, off a + s.size a ≤ s.size a)
    (h : 0 < (Rect.unit off s.size inb).shape.numel) (w : s.Idx → Elt F .f32) (hx : (m.access (Rect.unit off s.size inb)).Stores Finset.univ)
    {X : s.Idx → Elt F .f32} {α : Type} {k : PUnit → KProg F α} {Q : α → sProp 𝕄} :
    owns (c : Thread nD τ) m fullShare X
      ⊢ iprop((owns (c : Thread nD τ) m fullShare w -∗ wpc c (k ⟨⟩) Q) -∗ wpc c (sto m (Rect.unit off s.size inb) h w hx >>= k) Q) := by
  have := wp_sto c m (Rect.unit off s.size inb) h w hx (X := X) (k := k) (Q := Q)
  rw [unit_overlay h0 inb X w] at this
  exact this

end Mem

/-! ## Slices of a buffer -/

section Slices

variable (c : Dev nD) {s : Shape} (m : Memref sig .tc .vmem s .f32) (q : PosShare TreeShare)

/-- Slices of a disjoint family that make up a rectangle are that rectangle's slice. -/
theorem owns_merge {T : Type} [DecidableEq T] (r : T → Rect s) (hr : ∀ t a, (r t).stride a = 1)
    (hd : ∀ t t', t ≠ t' → Disjoint (r t).set (r t').set) (R : Rect s) (hR : ∀ a, R.stride a = 1) (S : Finset T)
    (hcov : ∀ i, i ∈ R.set ↔ ∃ t ∈ S, i ∈ (r t).set) (X : s.Idx → Elt F .f32) :
    bigSep S (fun t => owns (c : Thread nD τ) (m.slice (r t) (hr t)) q (fun j => X ((r t).emb j)))
      ⊢ (owns (c : Thread nD τ) (m.slice R hR) q (fun j => X (R.emb j)) : sProp 𝕄) := by
  refine (owns_rects_join (c : Thread nD τ) m q r hr hd X S).trans ?_
  iintro ⟨%g, %hg, H⟩
  have hset : (S.biUnion fun t => (m.view.slice (r t)).set) = (m.view.slice R).set := by
    ext i
    rw [Finset.mem_biUnion, View.set_slice, Finset.mem_map]
    constructor
    · rintro ⟨t, ht, hi⟩
      rw [View.set_slice, Finset.mem_map] at hi
      obtain ⟨x, hx, rfl⟩ := hi
      exact ⟨x, (hcov x).mpr ⟨t, ht, hx⟩, rfl⟩
    · rintro ⟨x, hx, rfl⟩
      obtain ⟨t, ht, hx'⟩ := (hcov x).mp hx
      exact ⟨t, ht, by rw [View.set_slice, Finset.mem_map]; exact ⟨x, hx', rfl⟩⟩
  have hX : (fun j => X (R.emb j)) = fun j => m.view.read (Elt F) g (R.emb j) := funext fun j => by
    obtain ⟨t, ht, hx⟩ := (hcov (R.emb j)).mp (R.idx_mem j)
    obtain ⟨i, hi⟩ := (r t).exists_idx_of_mem hx
    rw [← hi]; exact (hg t ht i).symm
  rw [hX, owns_slice_read (c : Thread nD τ) m q R hR g, hset]
  iexact H

end Slices

theorem mem_rz {s : Fin 7} {i : S256x896.Idx} : i ∈ (rz s).set ↔ 128 * s.val ≤ (i 1 : ℕ) ∧ (i 1 : ℕ) < 128 * s.val + 128 := by
  rw [Rect.mem_set_unit, Fin.forall_fin_two]
  exact ⟨fun h => h.2, fun h => ⟨⟨Nat.zero_le _, by have := (i 0).isLt; exact (Nat.zero_add _).symm ▸ this⟩, h⟩⟩
theorem mem_rlo {i : S256x896.Idx} : i ∈ rlo.set ↔ (i 1 : ℕ) < 512 := by
  rw [Rect.mem_set_unit, Fin.forall_fin_two]
  exact ⟨fun h => by simpa using h.2.2, fun h => ⟨⟨Nat.zero_le _, by have := (i 0).isLt; exact (Nat.zero_add _).symm ▸ this⟩, Nat.zero_le _, by simpa using h⟩⟩
theorem mem_rhi {i : S256x896.Idx} : i ∈ rhi.set ↔ 512 ≤ (i 1 : ℕ) := by
  rw [Rect.mem_set_unit, Fin.forall_fin_two]
  exact ⟨fun h => h.2.1, fun h => ⟨⟨Nat.zero_le _, by have := (i 0).isLt; exact (Nat.zero_add _).symm ▸ this⟩, h, by have := (i 1).isLt; exact this⟩⟩

theorem rz_disjoint (s t : Fin 7) (h : s ≠ t) : Disjoint (rz s).set (rz t).set :=
  Finset.disjoint_left.mpr fun i hs ht => by
    rw [mem_rz] at hs ht
    exact h (Fin.ext (by omega))
theorem rz_cover : Finset.univ.biUnion (fun s : Fin 7 => (rz s).set) = Finset.univ := by
  ext i
  simp only [Finset.mem_biUnion, Finset.mem_univ, true_and, iff_true]
  have hi : (i 1 : ℕ) < 896 := (i 1).isLt
  exact ⟨⟨(i 1 : ℕ) / 128, by omega⟩, mem_rz.mpr ⟨by show 128 * ((i 1 : ℕ) / 128) ≤ _; omega, by show _ < 128 * ((i 1 : ℕ) / 128) + 128; omega⟩⟩

/-- The lower and the upper part. -/
abbrev r2 : Bool → Rect S256x896
  | false => rlo
  | true => rhi
theorem r2_stride (b : Bool) (a : Fin 2) : (r2 b).stride a = 1 := by cases b <;> rfl
theorem rlo_rhi : Disjoint rlo.set rhi.set :=
  Finset.disjoint_left.mpr fun i ha hb => by
    have h1 := mem_rlo.mp ha; have h2 := mem_rhi.mp hb; omega
theorem r2_disjoint : ∀ a b : Bool, a ≠ b → Disjoint (r2 a).set (r2 b).set
  | false, false, h => absurd rfl h
  | true, true, h => absurd rfl h
  | false, true, _ => rlo_rhi
  | true, false, _ => rlo_rhi.symm
theorem r2_cover : Finset.univ.biUnion (fun b : Bool => (r2 b).set) = Finset.univ := by
  ext i
  simp only [Finset.mem_biUnion, Finset.mem_univ, true_and, iff_true]
  rcases Nat.lt_or_ge (i 1 : ℕ) 512 with h | h
  · exact ⟨false, mem_rlo.mpr h⟩
  · exact ⟨true, mem_rhi.mpr h⟩

abbrev all7 : List (Fin 7) := [0, 1, 2, 3, 4, 5, 6]

section Parts

variable (c : Dev nD) (m : Memref sig .tc .vmem S256x896 .f32) (q : PosShare TreeShare)

abbrev sl (s : Fin 7) : Memref sig .tc .vmem S256x128 .f32 := m.slice (rz s) (fun _ => rfl)
abbrev lo : Memref sig .tc .vmem S256x512 .f32 := m.slice rlo (fun _ => rfl)
abbrev hi : Memref sig .tc .vmem S256x384 .f32 := m.slice rhi (fun _ => rfl)

/-- A memref at any contents. -/
abbrev Any {s : Shape} (c : Dev nD) (m : Memref sig .tc .vmem s .f32) (q : PosShare TreeShare) : sProp 𝕄 :=
  ownsSat (c : Thread nD τ) m q fun _ => True

theorem any_of {s : Shape} (m : Memref sig .tc .vmem s .f32) (X : s.Idx → Elt F .f32) : owns (c : Thread nD τ) m q X ⊢ Any c m q :=
  ownsSat_intro (c : Thread nD τ) m q trivial

theorem split7 (X : S256x896.Idx → Elt F .f32) :
    owns (c : Thread nD τ) m q X ⊢ (bigSepL all7 fun s => owns (c : Thread nD τ) (sl m s) q fun j => X ((rz s).emb j) : sProp 𝕄) :=
  (owns_rects (c : Thread nD τ) m q rz (fun _ _ => rfl) rz_disjoint rz_cover X).trans (Entails.of_eq (chain_univ all7 (by decide) (by decide) _))
theorem join7 (X : S256x896.Idx → Elt F .f32) :
    (bigSepL all7 fun s => owns (c : Thread nD τ) (sl m s) q fun j => X ((rz s).emb j)) ⊢ (owns (c : Thread nD τ) m q X : sProp 𝕄) :=
  (Entails.of_eq (chain_univ all7 (by decide) (by decide) _).symm).trans (owns_of_rects (c : Thread nD τ) m q rz (fun _ _ => rfl) rz_disjoint rz_cover X)
theorem anySplit7 : Any c m q ⊢ (bigSepL all7 fun s => Any c (sl m s) q : sProp 𝕄) :=
  (ownsSat_mono (c : Thread nD τ) m q fun _ _ _ => trivial).trans
    ((ownsSat_rects (c : Thread nD τ) m q rz (fun _ _ => rfl) rz_disjoint rz_cover (fun _ _ => True)).trans (Entails.of_eq (chain_univ all7 (by decide) (by decide) _)))
theorem anyJoin7 : (bigSepL all7 fun s => Any c (sl m s) q) ⊢ (Any c m q : sProp 𝕄) :=
  (Entails.of_eq (chain_univ all7 (by decide) (by decide) _).symm).trans
    ((ownsSat_of_rects (c : Thread nD τ) m q rz (fun _ _ => rfl) rz_disjoint rz_cover (fun _ _ => True)).trans (ownsSat_mono (c : Thread nD τ) m q fun _ _ => trivial))

theorem two (Φ : Bool → sProp 𝕄) : bigSep Finset.univ Φ = iprop(Φ false ∗ Φ true) := chain_univ [false, true] (by decide) (by decide) Φ

theorem join2 (X : S256x896.Idx → Elt F .f32) :
    iprop(owns (c : Thread nD τ) (lo m) q (fun j => X (rlo.emb j)) ∗ owns (c : Thread nD τ) (hi m) q fun j => X (rhi.emb j)) ⊢ (owns (c : Thread nD τ) m q X : sProp 𝕄) :=
  (Entails.of_eq (two _).symm).trans (owns_of_rects (c : Thread nD τ) m q r2 r2_stride r2_disjoint r2_cover X)
theorem anySplit2 : Any c m q ⊢ (iprop(Any c (lo m) q ∗ Any c (hi m) q) : sProp 𝕄) :=
  (ownsSat_mono (c : Thread nD τ) m q fun _ _ _ => trivial).trans
    ((ownsSat_rects (c : Thread nD τ) m q r2 r2_stride r2_disjoint r2_cover (fun _ _ => True)).trans (Entails.of_eq (two _)))
theorem anyJoin2 : iprop(Any c (lo m) q ∗ Any c (hi m) q) ⊢ (Any c m q : sProp 𝕄) :=
  (Entails.of_eq (two _).symm).trans
    ((ownsSat_of_rects (c : Thread nD τ) m q r2 r2_stride r2_disjoint r2_cover (fun _ _ => True)).trans (ownsSat_mono (c : Thread nD τ) m q fun _ _ => trivial))

theorem mergeLo (X : S256x896.Idx → Elt F .f32) :
    (bigSepL [0, 1, 2, 3] fun s => owns (c : Thread nD τ) (sl m s) q fun j => X ((rz s).emb j)) ⊢ (owns (c : Thread nD τ) (lo m) q fun j => X (rlo.emb j) : sProp 𝕄) :=
  (Entails.of_eq (bigSep_eq_bigSepL_of_eq (S := ({0, 1, 2, 3} : Finset (Fin 7))) [0, 1, 2, 3] (by decide) (by decide) _).symm).trans
    (owns_merge c m q rz (fun _ _ => rfl) rz_disjoint rlo (fun _ => rfl) {0, 1, 2, 3} (fun i => by
      rw [mem_rlo]; simp only [mem_rz]
      have key : ∀ n : ℕ, n < 512 ↔ ∃ t ∈ ({0, 1, 2, 3} : Finset (Fin 7)), 128 * t.val ≤ n ∧ n < 128 * t.val + 128 := fun n => by simp; omega
      exact key _) X)
theorem mergeHi (X : S256x896.Idx → Elt F .f32) :
    (bigSepL [4, 5, 6] fun s => owns (c : Thread nD τ) (sl m s) q fun j => X ((rz s).emb j)) ⊢ (owns (c : Thread nD τ) (hi m) q fun j => X (rhi.emb j) : sProp 𝕄) :=
  (Entails.of_eq (bigSep_eq_bigSepL_of_eq (S := ({4, 5, 6} : Finset (Fin 7))) [4, 5, 6] (by decide) (by decide) _).symm).trans
    (owns_merge c m q rz (fun _ _ => rfl) rz_disjoint rhi (fun _ => rfl) {4, 5, 6} (fun i => by
      rw [mem_rhi]; simp only [mem_rz]
      have key : ∀ n : ℕ, n < 896 → (512 ≤ n ↔ ∃ t ∈ ({4, 5, 6} : Finset (Fin 7)), 128 * t.val ≤ n ∧ n < 128 * t.val + 128) := fun n hn => by simp; omega
      exact key _ (i 1).isLt) X)

/-- The shares of a slice, when all are back. -/
theorem thirds {s : Shape} (m : Memref sig .tc .vmem s .f32) :
    iprop(Any c m fullShare.left ∗ Any c m fullShare.right.left ∗ Any c m fullShare.right.right) ⊢ (Any c m fullShare : sProp 𝕄) :=
  (ownsSat_thirds (c : Thread nD τ) m (q := fullShare) (Φ := fun _ => True)).2
theorem halves {s : Shape} (m : Memref sig .tc .vmem s .f32) :
    iprop(Any c m fullShare.left ∗ Any c m fullShare.right) ⊢ (Any c m fullShare : sProp 𝕄) :=
  (ownsSat_halves (c : Thread nD τ) m (q := fullShare) (Φ := fun _ => True)).2

end Parts

end Cert.SoftmaxProof

end
-- ==== Proof.Body.lean ====
/-
# The body on one device

From what a device holds at the start of the kernel to what it holds at the end, phase by phase.
-/
module

public import proofs.«01_k».proof.Proof.Pieces

@[expose] public section

noncomputable section

namespace Cert.SoftmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

local notation "𝕄" => MT nD τ sig ℕ (Elt F) ℕ UU ℕ

variable (xs : Dev nD → S256x512.Idx → Elt F .f32) (ws : Dev nD → S512x4096.Idx → Elt F .f32)

/-! ## The result -/

/-- The row maxima over both halves, and the reciprocals of the row sums. -/
def mAll (c : Dev nD) : S256x1.Idx → Elt F .f32 := k0_pay8 (k0_pay4 (lg xs ws c)) (mx xs ws (zp c))
def sAll (c : Dev nD) : S256x1.Idx → Elt F .f32 := k0_pay9 (k0_pay4 (lg xs ws c)) (k0_pay5 (lg xs ws c) (lg xs ws c)) (mx xs ws (zp c)) (sm xs ws (zp c))

/-- The six pieces of the result. -/
def p2 (c : Dev nD) : S256x4096.Idx → Elt F .f32 :=
  k0_pay10 (k0_pay4 (lg xs ws c)) (k0_pay5 (lg xs ws c) (lg xs ws c)) (mx xs ws (zp c)) (sm xs ws (zp c)) (lg xs ws c)
def p3 (c : Dev nD) : S256x896.Idx → Elt F .f32 := k0_pay11 (mAll xs ws c) (sAll xs ws c) (us xs ws (zp c))
def p4 (c : Dev nD) : S256x896.Idx → Elt F .f32 := k0_pay12 (mAll xs ws c) (sAll xs ws c) (us xs ws (zp (xn c)))
def p5 (c : Dev nD) : S256x896.Idx → Elt F .f32 := k0_pay13 (mAll xs ws c) (sAll xs ws c) (us xs ws (zp (yn c)))
def p6 (c : Dev nD) : S256x512.Idx → Elt F .f32 := k0_pay14 (mAll xs ws c) (sAll xs ws c) (rs xs ws (zp c))
def p7 (c : Dev nD) : S256x896.Idx → Elt F .f32 := k0_pay15 (mAll xs ws c) (sAll xs ws c) (us xs ws (zp (yn (xn c))))

/-- The result array after the first two stores, and after all six. -/
def out3 (c : Dev nD) (X : S256x8192.Idx → Elt F .f32) : S256x8192.Idx → Elt F .f32 :=
  (o3 c).overlay ((o2 c).overlay X (p2 xs ws c)) (p3 xs ws c)
def out7 (c : Dev nD) (X : S256x8192.Idx → Elt F .f32) : S256x8192.Idx → Elt F .f32 :=
  (o7 c).overlay ((o6 c).overlay ((o5 c).overlay ((o4 c).overlay (out3 xs ws c X) (p4 xs ws c)) (p5 xs ws c)) (p6 xs ws c)) (p7 xs ws c)

/-! ## Start and end -/

/-- What a device holds towards a transfer before the barrier. -/
def Todo0 (c : Dev nD) (t : Tx) : sProp 𝕄 := iprop(dutyTok ER (sCell t c) 0 0 ∗ dutyTok ER (rCell t (peer t c)) 0 0 ∗ atPos ER (sCell t c) 0 ∅ 0)

/-- What device `c` owes at the start. -/
def oweAll (c : Dev nD) : CellTallies nD τ sig ℕ := oweOf c order + owB c 2 + owB c 1 + owB c 0

/-- The scratch buffers, at any contents. -/
def Scr (c : Dev nD) : sProp 𝕄 :=
  iprop(Any c lgM fullShare ∗ Any c usM fullShare ∗ Any c rsM fullShare ∗ Any c urM fullShare ∗ Any c rrM fullShare ∗ Any c xrM fullShare
    ∗ Any c yrM fullShare ∗ Any c drM fullShare ∗ Any c ssM fullShare ∗ Any c srM fullShare)

theorem scr_eq (c : Dev nD) : (Scr c : sProp 𝕄) =
  iprop(Any c lgM fullShare ∗ Any c usM fullShare ∗ Any c rsM fullShare ∗ Any c urM fullShare ∗ Any c rrM fullShare ∗ Any c xrM fullShare
    ∗ Any c yrM fullShare ∗ Any c drM fullShare ∗ Any c ssM fullShare ∗ Any c srM fullShare) := rfl

/-- The tokens, credits and positions of device `c` at the start. -/
def Start (c : Dev nD) : sProp 𝕄 :=
  iprop((bigSepL [0, 1, 2] fun i : Fin 3 => dutyTok ER (barCell (nbr i c)) 0 i) ∗ cred (tallyAt (barCell c) 1 3) ∗ atPos ER (barCell c) 0 ∅ 0
    ∗ bigSepL order (Todo0 c) ∗ bigSepL order (Rcv c))

/-- All its semaphores at zero, at the end. -/
def Zeros (c : Dev nD) : sProp 𝕄 := iprop(semVal (barCell c) 0 ∗ bigSepL order (sZero c) ∗ bigSepL order (rZero c))

/-! ## The barrier's exchange of buffers -/

theorem barPay_own (c : Dev nD) (i : Fin 3) : barPay (F := F) (nbr i c) i = bigSepL (txOf i) fun t => Free t c := by
  unfold barPay; rw [nbr_nbr]

/-- A device's landing buffers, sorted by who sends to them. -/
theorem give_bufs (c : Dev nD) :
    iprop(Any c urM fullShare ∗ Any c rrM fullShare ∗ Any c xrM fullShare ∗ Any c yrM fullShare ∗ Any c drM fullShare ∗ Any c srM fullShare)
      ⊢ (iprop(barPay (nbr 0 c) 0 ∗ barPay (nbr 1 c) 1 ∗ barPay (nbr 2 c) 2) : sProp 𝕄) := by
  have e0 : (bigSepL (txOf 0) fun t => Free t c : sProp 𝕄) = iprop((bigSepL all7 fun s => Free (.z s) c) ∗ Free .st c ∗ Free .zR c) := by
    rw [chain_perm (l := txOf 0) (l' := all7.map .z ++ [.st, .zR]) (by decide) (by decide), bigSepL_append, bigSepL_map]; rfl
  have e1 : (bigSepL (txOf 1) fun t => Free t c : sProp 𝕄) = iprop((bigSepL all7 fun s => Free (.x1 s) c) ∗ Free .x2 c) := by
    rw [show txOf 1 = all7.map .x1 ++ [.x2] from rfl, bigSepL_append, bigSepL_map, bigSepL_singleton]
  have e2 : (bigSepL (txOf 2) fun t => Free t c : sProp 𝕄) = iprop((bigSepL all7 fun s => Free (.y1 s) c) ∗ Free .y2 c) := by
    rw [show txOf 2 = all7.map .y1 ++ [.y2] from rfl, bigSepL_append, bigSepL_map, bigSepL_singleton]
  rw [barPay_own, barPay_own, barPay_own, e0, e1, e2]
  unfold Free
  iintro ⟨Hur, Hrr, Hxr, Hyr, Hdr, Hsr⟩
  ihave Hur := (anySplit7 c urM fullShare) $$ Hur
  ihave Hxr := (anySplit7 c xrM fullShare) $$ Hxr
  ihave Hyr := (anySplit7 c yrM fullShare) $$ Hyr
  ihave Hdr := (anySplit2 c drM fullShare) $$ Hdr
  icases Hdr with ⟨Hd1, Hd2⟩
  isplitl [Hur Hsr Hrr]
  · isplitl [Hur]; · iexact Hur
    isplitl [Hsr]; · iexact Hsr
    iexact Hrr
  isplitl [Hxr Hd1]
  · isplitl [Hxr]; · iexact Hxr
    iexact Hd1
  isplitl [Hyr]; · iexact Hyr
  iexact Hd2

theorem peer_of_tx : ∀ (i : Fin 3), ∀ t ∈ txOf i, ∀ c : Dev nD, peer t c = nbr i c := by decide

/-- The neighbours' buffers, and the own tokens: everything the transfers need. -/
theorem todo_all (c : Dev nD) : iprop(bigSepL order (Todo0 c) ∗ barPay c 0 ∗ barPay c 1 ∗ barPay c 2) ⊢ (bigSepL order (Todo c) : sProp 𝕄) := by
  have hF : iprop(barPay c 0 ∗ barPay c 1 ∗ barPay c 2) ⊢ (bigSepL order (fun t => Free t (peer t c)) : sProp 𝕄) := by
    rw [chain_perm (l := order) (l' := txOf 0 ++ (txOf 1 ++ txOf 2)) (by decide) order_nodup, bigSepL_append, bigSepL_append]
    have h (i : Fin 3) : barPay c i ⊢ (bigSepL (txOf i) (fun t => Free t (peer t c)) : sProp 𝕄) :=
      bigSepL_mono fun t ht => Entails.of_eq (by rw [peer_of_tx i t ht c])
    exact BIClass.sep_mono (h 0) (BIClass.sep_mono (h 1) (h 2))
  have hT : iprop(bigSepL order (Todo0 c) ∗ bigSepL order (fun t => Free t (peer t c))) ⊢ (bigSepL order (Todo c) : sProp 𝕄) := by
    rw [← chain_sep]
    refine bigSepL_mono fun t _ => ?_
    unfold Todo0 Todo
    iintro ⟨⟨H1, H2, H3⟩, H4⟩
    isplitl [H1]; · iexact H1
    isplitl [H2]; · iexact H2
    isplitl [H3] <;> iassumption
  exact (sep_mono_right hF).trans hT

/-! ## The local phase -/

theorem wp_locP (c : Dev nD) {X5 : S256x8.Idx → Elt F .f32} {X2 : S256x4096.Idx → Elt F .f32} {X3 : S256x896.Idx → Elt F .f32} {X4 : S256x512.Idx → Elt F .f32} {α : Type}
    {k : (S256x4096.Idx → Elt F .f32) × (S256x4096.Idx → Elt F .f32) → KProg F α} {Q : α → sProp 𝕄} :
    iprop(owns (c : Thread nD τ) xM fullShare (xs c) ∗ owns (c : Thread nD τ) wM fullShare (ws c) ∗ owns (c : Thread nD τ) lgM fullShare X2
        ∗ owns (c : Thread nD τ) usM fullShare X3 ∗ owns (c : Thread nD τ) rsM fullShare X4 ∗ owns (c : Thread nD τ) ssM fullShare X5)
      ⊢ iprop(((owns (c : Thread nD τ) xM fullShare (xs c) ∗ owns (c : Thread nD τ) wM fullShare (ws c) ∗ owns (c : Thread nD τ) lgM fullShare (lg xs ws c)
            ∗ owns (c : Thread nD τ) usM fullShare (us xs ws c) ∗ owns (c : Thread nD τ) rsM fullShare (rs xs ws c)
            ∗ owns (c : Thread nD τ) ssM fullShare (rc1.overlay (rc0.overlay X5 (mx xs ws c)) (sm xs ws c)))
          -∗ wpc c (k (lg xs ws c, lg xs ws c)) Q) -∗ wpc c (locP c >>= k) Q) := by
  rw [show (locP c >>= k : KProg F α) = (ld xM wX h_S256x512 >>= fun x => ld wM wW h_S512x4096 >>= fun w =>
      sto lgM wL h_S256x4096 (k0_pay1 x w) (View.stores_vmem_bits_univ h_S256x4096 rfl) >>= fun _ => ld lgM (rU c) h_S256x896 >>= fun u =>
      sto usM wU h_S256x896 (k0_pay2 u) (View.stores_vmem_bits_univ h_S256x896 rfl) >>= fun _ => ld lgM rR h_S256x512 >>= fun r =>
      sto rsM wX h_S256x512 (k0_pay3 r) (View.stores_vmem_bits_univ h_S256x512 rfl) >>= fun _ => ld lgM wL h_S256x4096 >>= fun a => ld lgM wL h_S256x4096 >>= fun b =>
      sto ssM rc0 h_S256x1 (k0_pay6 a) (View.stores_vmem_bits_univ h_S256x1 rfl) >>= fun _ =>
      sto ssM rc1 h_S256x1 (k0_pay7 a b) (View.stores_vmem_bits_univ h_S256x1 rfl) >>= fun _ => k (a, b)) from by
    simp only [locP, bind_assoc, pure_bind]]
  iintro ⟨Hx, Hw, Hl, Hu, Hr, Hs⟩ Hk
  iapply (wp_ldW c xM zz _ h_S256x512) $$ Hx
  iintro Hx
  iapply (wp_ldW c wM zz _ h_S512x4096) $$ Hw
  iintro Hw
  iapply (wp_stoW c lgM zz _ h_S256x4096 (lg xs ws c) _) $$ Hl
  iintro Hl
  iapply (wp_loadR c lgM (rU c) _) $$ Hl
  iintro Hl
  iapply (wp_stoW c usM zz _ h_S256x896 (us xs ws c) _) $$ Hu
  iintro Hu
  iapply (wp_loadR c lgM rR _) $$ Hl
  iintro Hl
  iapply (wp_stoW c rsM zz _ h_S256x512 (rs xs ws c) _) $$ Hr
  iintro Hr
  iapply (wp_ldW c lgM zz _ h_S256x4096) $$ Hl
  iintro Hl
  iapply (wp_ldW c lgM zz _ h_S256x4096) $$ Hl
  iintro Hl
  iapply (wp_sto c ssM rc0 h_S256x1 (mx xs ws c) _) $$ Hs
  iintro Hs
  iapply (wp_sto c ssM rc1 h_S256x1 (sm xs ws c) _) $$ Hs
  iintro Hs
  iapply Hk
  isplitl [Hx]; · iexact Hx
  isplitl [Hw]; · iexact Hw
  isplitl [Hl]; · iexact Hl
  isplitl [Hu]; · iexact Hu
  isplitl [Hr] <;> iassumption

/-- The first nine transfers' sources, from the three buffers they leave. -/
abbrev first9 : List Tx := [.z 0, .z 1, .st, .z 2, .z 3, .z 4, .z 5, .z 6, .zR]

theorem rc_disjoint : Disjoint rc0.set rc1.set :=
  Rect.unit_disjoint 1 (by decide)

theorem stats_cols (X : S256x8.Idx → Elt F .f32) (a b : S256x1.Idx → Elt F .f32) :
    (fun j => rc1.overlay (rc0.overlay X a) b (rc0.emb j)) = a ∧ (fun j => rc1.overlay (rc0.overlay X a) b (rc1.emb j)) = b :=
  ⟨funext fun j => by
    rw [Rect.overlay_of_not_mem rc1 _ b (show rc0.emb j ∉ rc1.set from Finset.disjoint_left.mp rc_disjoint (rc0.idx_mem j))]
    exact Rect.overlay_emb rc0 X a j,
   funext fun j => Rect.overlay_emb rc1 _ b j⟩

theorem ready_first (c : Dev nD) (X : S256x8.Idx → Elt F .f32) :
    iprop(owns (c : Thread nD τ) usM fullShare (us xs ws c) ∗ owns (c : Thread nD τ) rsM fullShare (rs xs ws c)
        ∗ owns (c : Thread nD τ) ssM fullShare (rc1.overlay (rc0.overlay X (mx xs ws c)) (sm xs ws c)))
      ⊢ bigSepL first9 (Ready xs ws c) := by
  rw [chain_perm (l := first9) (l' := all7.map .z ++ [.st, .zR]) (by decide) (by decide), bigSepL_append, bigSepL_map,
    show bigSepL [Tx.st, Tx.zR] (Ready xs ws c) = iprop(Ready xs ws c .st ∗ Ready xs ws c .zR) from rfl]
  iintro ⟨Hu, Hr, Hs⟩
  ihave Hu := (split7 c usM fullShare (us xs ws c)) $$ Hu
  isplitl [Hu]
  · iapply (show (bigSepL all7 fun s => owns (c : Thread nD τ) (sl usM s) fullShare fun j => us xs ws c ((rz s).emb j)) ⊢ (bigSepL all7 fun s => Ready xs ws c (.z s) : sProp 𝕄) from
      bigSepL_mono fun s _ => by
        unfold Ready
        iintro H
        iexists (fun j => us xs ws c ((rz s).emb j))
        isplitr
        · ipureintro; show _ = _; rw [show zp (peer (.z s) c) = c from zp_zp c]; rfl
        iexact H)
    iexact Hu
  unfold Ready
  isplitl [Hs]
  · iexists (rc1.overlay (rc0.overlay X (mx xs ws c)) (sm xs ws c))
    isplitr
    · ipureintro
      show _ ∧ _
      rw [show zp (peer .st c) = c from zp_zp c]
      exact stats_cols X _ _
    iexact Hs
  iexists (rs xs ws c)
  isplitr
  · ipureintro; show _ = _; rw [show zp (peer .zR c) = c from zp_zp c]
  iexact Hr

/-! ## The pieces of a received buffer -/

/-- The landed slices are the parts they make up. -/
theorem got (c : Dev nD) (t : Tx) {X : (shp t).Idx → Elt F .f32} (h : ∀ Y, Lands xs ws t c Y → Y = X) :
    recvPay xs ws t c ⊢ owns (c : Thread nD τ) (dst t) fullShare X := by
  unfold recvPay
  refine (ownsSat_elim (c : Thread nD τ) (dst t) fullShare _).trans ?_
  iintro ⟨%Y, %hY, H⟩
  rw [← h Y hY]; iexact H

theorem got_yLo (c : Dev nD) : (bigSepL yLo fun t => recvPay xs ws t c) ⊢ (owns (c : Thread nD τ) (lo yrM) fullShare fun j => us xs ws (zp (yn c)) (rlo.emb j) : sProp 𝕄) :=
  ((Entails.of_eq (bigSepL_map Tx.y1 [0, 1, 2, 3] _)).trans (bigSepL_mono fun s _ => got xs ws c (.y1 s) fun _ h => h)).trans (mergeLo c yrM fullShare _)
theorem got_yHi (c : Dev nD) : (bigSepL yHi fun t => recvPay xs ws t c) ⊢ (owns (c : Thread nD τ) (hi yrM) fullShare fun j => us xs ws (zp (yn c)) (rhi.emb j) : sProp 𝕄) :=
  ((Entails.of_eq (bigSepL_map Tx.y1 [4, 5, 6] _)).trans (bigSepL_mono fun s _ => got xs ws c (.y1 s) fun _ h => h)).trans (mergeHi c yrM fullShare _)
theorem got_xLo (c : Dev nD) : (bigSepL xLo fun t => recvPay xs ws t c) ⊢ (owns (c : Thread nD τ) (lo xrM) fullShare fun j => us xs ws (zp (xn c)) (rlo.emb j) : sProp 𝕄) :=
  ((Entails.of_eq (bigSepL_map Tx.x1 [0, 1, 2, 3] _)).trans (bigSepL_mono fun s _ => got xs ws c (.x1 s) fun _ h => h)).trans (mergeLo c xrM fullShare _)
theorem got_xHi (c : Dev nD) : (bigSepL xHi fun t => recvPay xs ws t c) ⊢ (owns (c : Thread nD τ) (hi xrM) fullShare fun j => us xs ws (zp (xn c)) (rhi.emb j) : sProp 𝕄) :=
  ((Entails.of_eq (bigSepL_map Tx.x1 [4, 5, 6] _)).trans (bigSepL_mono fun s _ => got xs ws c (.x1 s) fun _ h => h)).trans (mergeHi c xrM fullShare _)

/-! ## The own pieces of the result -/

theorem wp_ownP (c : Dev nD) {Y : S256x8.Idx → Elt F .f32} (hY : Lands xs ws .st c Y) {X : S256x8192.Idx → Elt F .f32} {q : PosShare TreeShare} {α : Type}
    {k : (S256x1.Idx → Elt F .f32) × (S256x1.Idx → Elt F .f32) → KProg F α} {Q : α → sProp 𝕄} :
    iprop(owns (c : Thread nD τ) srM fullShare Y ∗ owns (c : Thread nD τ) lgM fullShare (lg xs ws c) ∗ owns (c : Thread nD τ) urM q (us xs ws (zp c))
        ∗ owns (c : Thread nD τ) oM fullShare X)
      ⊢ iprop(((owns (c : Thread nD τ) srM fullShare Y ∗ owns (c : Thread nD τ) lgM fullShare (lg xs ws c) ∗ owns (c : Thread nD τ) urM q (us xs ws (zp c))
            ∗ owns (c : Thread nD τ) oM fullShare (out3 xs ws c X))
          -∗ wpc c (k (mAll xs ws c, sAll xs ws c)) Q) -∗ wpc c (ownP c (lg xs ws c) (lg xs ws c) >>= k) Q) := by
  obtain ⟨h0, h1⟩ := (show (fun j => Y (rc0.emb j)) = mx xs ws (zp c) ∧ (fun j => Y (rc1.emb j)) = sm xs ws (zp c) from hY)
  rw [show (ownP c (lg xs ws c) (lg xs ws c) >>= k : KProg F α) = (ld srM rc0 h_S256x1 >>= fun m => ld srM rc1 h_S256x1 >>= fun s => ld lgM wL h_S256x4096 >>= fun l =>
      sto oM (o2 c) h_S256x4096 (k0_pay10 (k0_pay4 (lg xs ws c)) (k0_pay5 (lg xs ws c) (lg xs ws c)) m s l) (View.stores_vmem_bits_univ h_S256x4096 rfl) >>= fun _ =>
      ld urM wU h_S256x896 >>= fun u =>
      sto oM (o3 c) h_S256x896 (k0_pay11 (k0_pay8 (k0_pay4 (lg xs ws c)) m) (k0_pay9 (k0_pay4 (lg xs ws c)) (k0_pay5 (lg xs ws c) (lg xs ws c)) m s) u) (View.stores_vmem_bits_univ h_S256x896 rfl) >>= fun _ =>
      k (k0_pay8 (k0_pay4 (lg xs ws c)) m, k0_pay9 (k0_pay4 (lg xs ws c)) (k0_pay5 (lg xs ws c) (lg xs ws c)) m s)) from by
    simp only [ownP, bind_assoc, pure_bind]]
  iintro ⟨Hs, Hl, Hu, Ho⟩ Hk
  iapply (wp_loadR c srM rc0 _) $$ Hs
  iintro Hs
  iapply (wp_loadR c srM rc1 _) $$ Hs
  iintro Hs
  rw [h0, h1]
  iapply (wp_ldW c lgM zz _ h_S256x4096) $$ Hl
  iintro Hl
  iapply (wp_sto c oM (o2 c) h_S256x4096 (p2 xs ws c) _) $$ Ho
  iintro Ho
  iapply (wp_ldW c urM zz _ h_S256x896) $$ Hu
  iintro Hu
  iapply (wp_sto c oM (o3 c) h_S256x896 (p3 xs ws c) _) $$ Ho
  iintro Ho
  iapply Hk
  isplitl [Hs]; · iexact Hs
  isplitl [Hl]; · iexact Hl
  isplitl [Hu]; · iexact Hu
  iexact Ho

/-! ## The pieces that arrive -/

/-- What device `c` still holds of its scratch buffers when it starts to wait for its transfers to have left. -/
def Held (c : Dev nD) : sProp 𝕄 :=
  iprop(Any c lgM fullShare ∗ Any c urM fullShare.right.right ∗ Any c rrM fullShare
    ∗ (Any c xrM fullShare.right ∗ Any c (lo xrM) fullShare.left) ∗ (Any c yrM fullShare.right ∗ Any c (hi yrM) fullShare.left)
    ∗ Any c drM fullShare ∗ Any c srM fullShare)

/-- With what the departures hand back, that is all of the scratch buffers. -/
theorem scr_back (c : Dev nD) : iprop(Held c ∗ bigSepL leave fun t => sendPay t c) ⊢ (Scr c : sProp 𝕄) := by
  have e : (bigSepL leave fun t => sendPay t c : sProp 𝕄) = iprop((bigSepL all7 fun s => Any c (sl usM s) fullShare) ∗ (bigSepL all7 fun s => Any c (sl urM s) fullShare.left)
      ∗ (bigSepL all7 fun s => Any c (sl urM s) fullShare.right.left) ∗ Any c rsM fullShare ∗ Any c (lo yrM) fullShare.left ∗ Any c (hi xrM) fullShare.left ∗ Any c ssM fullShare) := by
    rw [show leave = all7.map .z ++ (all7.map .x1 ++ (all7.map .y1 ++ [.zR, .x2, .y2, .st])) from rfl, bigSepL_append, bigSepL_append, bigSepL_append,
      bigSepL_map, bigSepL_map, bigSepL_map]
    rfl
  rw [e]
  unfold Held Scr
  iintro ⟨⟨Hl, Hu3, Hrr, ⟨Hx2, Hx1⟩, ⟨Hy2, Hy1⟩, Hd, Hsr⟩, Hz, Hu1, Hu2, HzR, Hsx2, Hsy2, Hst⟩
  ihave Hus := (anyJoin7 c usM fullShare) $$ Hz
  ihave Hu3 := (anySplit7 c urM fullShare.right.right) $$ Hu3
  ihave Hur := (show iprop((bigSepL all7 fun s => Any c (sl urM s) fullShare.left) ∗ (bigSepL all7 fun s => Any c (sl urM s) fullShare.right.left)
      ∗ bigSepL all7 fun s => Any c (sl urM s) fullShare.right.right) ⊢ (Any c urM fullShare : sProp 𝕄) from by
    rw [← chain_sep, ← chain_sep]
    exact (bigSepL_mono fun s _ => thirds c (sl urM s)).trans (anyJoin7 c urM fullShare)) $$ [Hu1 Hu2 Hu3]
  · isplitl [Hu1]; · iexact Hu1
    isplitl [Hu2]; · iexact Hu2
    iexact Hu3
  ihave Hx2 := (anySplit2 c xrM fullShare.right) $$ Hx2
  icases Hx2 with ⟨Hxl, Hxh⟩
  ihave Hy2 := (anySplit2 c yrM fullShare.right) $$ Hy2
  icases Hy2 with ⟨Hyl, Hyh⟩
  ihave Hxl := (halves c (lo xrM)) $$ [Hx1 Hxl]
  · isplitl [Hx1] <;> iassumption
  ihave Hxh := (halves c (hi xrM)) $$ [Hsy2 Hxh]
  · isplitl [Hsy2]; · iexact Hsy2
    iexact Hxh
  ihave Hyl := (halves c (lo yrM)) $$ [Hsx2 Hyl]
  · isplitl [Hsx2]; · iexact Hsx2
    iexact Hyl
  ihave Hyh := (halves c (hi yrM)) $$ [Hy1 Hyh]
  · isplitl [Hy1] <;> iassumption
  ihave Hx := (anyJoin2 c xrM fullShare) $$ [Hxl Hxh]
  · isplitl [Hxl] <;> iassumption
  ihave Hy := (anyJoin2 c yrM fullShare) $$ [Hyl Hyh]
  · isplitl [Hyl] <;> iassumption
  isplitl [Hl]; · iexact Hl
  isplitl [Hus]; · iexact Hus
  isplitl [HzR]; · iexact HzR
  isplitl [Hur]; · iexact Hur
  isplitl [Hrr]; · iexact Hrr
  isplitl [Hx]; · iexact Hx
  isplitl [Hy]; · iexact Hy
  isplitl [Hd]; · iexact Hd
  isplitl [Hst]; · iexact Hst
  iexact Hsr

theorem lands_y2 (c : Dev nD) : zp (yn (xn (peer .y2 c))) = zp (xn c) := by
  show zp (yn (xn (yn c))) = _
  rw [← yn_xn, yn_yn]
theorem lands_x2 (c : Dev nD) : zp (yn (xn (peer .x2 c))) = zp (yn c) := by
  show zp (yn (xn (xn c))) = _
  rw [xn_xn]

/-- The departures awaited last, apart from the second hop of the `y` neighbour. -/
abbrev leave' : List Tx := first9 ++ (all7.map .x1 ++ (all7.map .y1 ++ [.x2]))

theorem wp_restP (c : Dev nD) {X : S256x8192.Idx → Elt F .f32} {α : Type} {k : PUnit → KProg F α} {Q : α → sProp 𝕄} :
    iprop(Env xs ws ∗ Pend c [.y2] ∗ (bigSepL xHi (Rcv c) ∗ bigSepL xLo (Rcv c) ∗ bigSepL yHi (Rcv c) ∗ Rcv c .zR ∗ Rcv c .x2 ∗ Rcv c .y2)
        ∗ bigSepL leave' (Snt c) ∗ owns (c : Thread nD τ) (lo yrM) fullShare.right (fun j => us xs ws (zp (yn c)) (rlo.emb j))
        ∗ owns (c : Thread nD τ) oM fullShare X)
      ⊢ iprop(((Pend c [] ∗ owns (c : Thread nD τ) oM fullShare
              ((o7 c).overlay ((o6 c).overlay ((o5 c).overlay ((o4 c).overlay X (p4 xs ws c)) (p5 xs ws c)) (p6 xs ws c)) (p7 xs ws c))
            ∗ (bigSepL xHi (rZero c) ∗ bigSepL xLo (rZero c) ∗ bigSepL yHi (rZero c) ∗ rZero c .zR ∗ rZero c .x2 ∗ rZero c .y2)
            ∗ bigSepL leave (sZero c) ∗ (bigSepL leave fun t => sendPay t c)
            ∗ Any c rrM fullShare ∗ (Any c xrM fullShare.right ∗ Any c (lo xrM) fullShare.left) ∗ (Any c yrM fullShare.right ∗ Any c (hi yrM) fullShare.left) ∗ Any c drM fullShare)
          -∗ wpc c (k ⟨⟩) Q) -∗ wpc c (restP c (mAll xs ws c) (sAll xs ws c) >>= k) Q) := by
  rw [show (restP c (mAll xs ws c) (sAll xs ws c) >>= k : KProg F α) = (waitsR xHi >>= fun _ => sendT .y2 c >>= fun _ => waitsR xLo >>= fun _ =>
      ld xrM wU h_S256x896 >>= fun x => sto oM (o4 c) h_S256x896 (k0_pay12 (mAll xs ws c) (sAll xs ws c) x) (View.stores_vmem_bits_univ h_S256x896 rfl) >>= fun _ =>
      waitsR yHi >>= fun _ =>
      ld yrM wU h_S256x896 >>= fun x => sto oM (o5 c) h_S256x896 (k0_pay13 (mAll xs ws c) (sAll xs ws c) x) (View.stores_vmem_bits_univ h_S256x896 rfl) >>= fun _ =>
      waitRT .zR >>= fun _ =>
      ld rrM wX h_S256x512 >>= fun x => sto oM (o6 c) h_S256x512 (k0_pay14 (mAll xs ws c) (sAll xs ws c) x) (View.stores_vmem_bits_univ h_S256x512 rfl) >>= fun _ =>
      waitRT .x2 >>= fun _ => waitRT .y2 >>= fun _ =>
      ld drM wU h_S256x896 >>= fun x => sto oM (o7 c) h_S256x896 (k0_pay15 (mAll xs ws c) (sAll xs ws c) x) (View.stores_vmem_bits_univ h_S256x896 rfl) >>= fun _ =>
      waitsS leave >>= k) from by simp only [restP, bind_assoc, pure_bind]]
  iintro ⟨#HE, HP, ⟨HrxH, HrxL, HryH, HrzR, Hrx2, Hry2⟩, Hsnt, HyL, Ho⟩ Hk
  -- the `x` neighbour's upper slices, which go on to the `y` neighbour
  iapply (wp_waitsR xs ws c [.y2] xHi (by decide)) $$ [HP HrxH]
  · isplitr; · iexact HE
    isplitl [HP] <;> iassumption
  iintro ⟨HP, HzxH, Hp⟩
  ihave Hp := (got_xHi xs ws c) $$ Hp
  ihave Hp := (owns_halves (c : Thread nD τ) (hi xrM) fullShare _).1 $$ Hp
  icases Hp with ⟨Hp, HxH⟩
  iapply (wp_sendT xs ws c .y2 [] (X := fun j => us xs ws (zp (xn c)) (rhi.emb j)) (show _ = _ by rw [lands_y2 c]; rfl)) $$ [HP Hp]
  · isplitr; · iexact HE
    isplitl [HP]; · iexact HP
    iexact Hp
  iintro ⟨HP, Hsy2⟩
  -- its lower slices, and the piece they give
  iapply (wp_waitsR xs ws c [] xLo (by decide)) $$ [HP HrxL]
  · isplitr; · iexact HE
    isplitl [HP] <;> iassumption
  iintro ⟨HP, HzxL, Hp⟩
  ihave Hp := (got_xLo xs ws c) $$ Hp
  ihave Hp := (owns_halves (c : Thread nD τ) (lo xrM) fullShare _).1 $$ Hp
  icases Hp with ⟨HxL1, HxL⟩
  ihave Hx := (join2 c xrM fullShare.right (us xs ws (zp (xn c)))) $$ [HxL HxH]
  · isplitl [HxL] <;> iassumption
  iapply (wp_ldW c xrM zz _ h_S256x896) $$ Hx
  iintro Hx
  iapply (wp_sto c oM (o4 c) h_S256x896 (p4 xs ws c) _) $$ Ho
  iintro Ho
  -- the `y` neighbour's upper slices, and the piece
  iapply (wp_waitsR xs ws c [] yHi (by decide)) $$ [HP HryH]
  · isplitr; · iexact HE
    isplitl [HP] <;> iassumption
  iintro ⟨HP, HzyH, Hp⟩
  ihave Hp := (got_yHi xs ws c) $$ Hp
  ihave Hp := (owns_halves (c : Thread nD τ) (hi yrM) fullShare _).1 $$ Hp
  icases Hp with ⟨HyH1, HyH⟩
  ihave Hy := (join2 c yrM fullShare.right (us xs ws (zp (yn c)))) $$ [HyL HyH]
  · isplitl [HyL] <;> iassumption
  iapply (wp_ldW c yrM zz _ h_S256x896) $$ Hy
  iintro Hy
  iapply (wp_sto c oM (o5 c) h_S256x896 (p5 xs ws c) _) $$ Ho
  iintro Ho
  -- the rest of the partner's columns
  iapply (wp_waitRT xs ws c .zR [] (by decide)) $$ [HP HrzR]
  · isplitr; · iexact HE
    isplitl [HP] <;> iassumption
  iintro ⟨HP, HzzR, Hp⟩
  ihave Hr := (got xs ws c .zR (X := rs xs ws (zp c)) fun _ h => h) $$ Hp
  iapply (wp_ldW c rrM zz _ h_S256x512) $$ Hr
  iintro Hr
  iapply (wp_sto c oM (o6 c) h_S256x512 (p6 xs ws c) _) $$ Ho
  iintro Ho
  -- the second hops, and the last piece
  iapply (wp_waitRT xs ws c .x2 [] (by decide)) $$ [HP Hrx2]
  · isplitr; · iexact HE
    isplitl [HP] <;> iassumption
  iintro ⟨HP, Hzx2, Hp⟩
  ihave Hd1 := (got xs ws c .x2 (X := fun j => us xs ws (zp (yn (xn c))) (rlo.emb j)) fun _ h => h) $$ Hp
  iapply (wp_waitRT xs ws c .y2 [] (by decide)) $$ [HP Hry2]
  · isplitr; · iexact HE
    isplitl [HP] <;> iassumption
  iintro ⟨HP, Hzy2, Hp⟩
  ihave Hd2 := (got xs ws c .y2 (X := fun j => us xs ws (zp (yn (xn c))) (rhi.emb j)) fun _ h => h) $$ Hp
  ihave Hd := (join2 c drM fullShare (us xs ws (zp (yn (xn c))))) $$ [Hd1 Hd2]
  · isplitl [Hd1]; · iexact Hd1
    iexact Hd2
  iapply (wp_ldW c drM zz _ h_S256x896) $$ Hd
  iintro Hd
  iapply (wp_sto c oM (o7 c) h_S256x896 (p7 xs ws c) _) $$ Ho
  iintro Ho
  -- everything has left
  have hperm : (iprop(bigSepL leave' (Snt c) ∗ Snt c .y2) : sProp 𝕄) = bigSepL leave (Snt c) := by
    rw [chain_perm (l := leave) (l' := leave' ++ [.y2]) (by decide) (by decide), bigSepL_append leave' [.y2]]
    rfl
  ihave Hsnt := (Entails.of_eq hperm) $$ [Hsnt Hsy2]
  · isplitl [Hsnt] <;> iassumption
  iapply (wp_waitsS xs ws c leave) $$ [HP Hsnt]
  · isplitr; · iexact HE
    isplitl [HP] <;> iassumption
  iintro ⟨HP, Hzs, Hps⟩
  iapply Hk
  isplitl [HP]; · iexact HP
  isplitl [Ho]; · iexact Ho
  isplitl [HzxH HzxL HzyH HzzR Hzx2 Hzy2]
  · isplitl [HzxH]; · iexact HzxH
    isplitl [HzxL]; · iexact HzxL
    isplitl [HzyH]; · iexact HzyH
    isplitl [HzzR]; · iexact HzzR
    isplitl [Hzx2] <;> iassumption
  isplitl [Hzs]; · iexact Hzs
  isplitl [Hps]; · iexact Hps
  isplitl [Hr]; · iapply (any_of c fullShare rrM _); iexact Hr
  isplitl [Hx HxL1]
  · isplitl [Hx]; · iapply (any_of c fullShare.right xrM _); iexact Hx
    iapply (any_of c fullShare.left (lo xrM) _); iexact HxL1
  isplitl [Hy HyH1]
  · isplitl [Hy]; · iapply (any_of c fullShare.right yrM _); iexact Hy
    iapply (any_of c fullShare.left (hi yrM) _); iexact HyH1
  iapply (any_of c fullShare drM _); iexact Hd

/-! ## The whole body -/

/-- Any contents are some contents. -/
theorem any_elim (c : Dev nD) {s : Shape} (m : Memref sig .tc .vmem s .f32) (q : PosShare TreeShare) :
    Any c m q ⊢ (iprop(∃ X, owns (c : Thread nD τ) m q X) : sProp 𝕄) := by
  refine (ownsSat_elim (c : Thread nD τ) m q _).trans ?_
  iintro ⟨%X, -, H⟩
  iexists X; iexact H

theorem wp_dev (c : Dev nD) {α : Type} (k : Dev nD → KProg F α) {Q : α → sProp 𝕄} : wpc c (Prog.lift .deviceId >>= k) Q = wpc c (k c) Q :=
  wp_deviceId ..

theorem wp_done (c : Dev nD) {Q : PUnit → sProp 𝕄} : iprop(|={Set.univ}=> Q ⟨⟩) ⊢ wpc (F := F) c (pure ⟨⟩) Q := by
  unfold wpc
  rw [Prog.pure_eq_ret, wp_ret]

theorem bodyP_eq (c : Dev nD) {Q : PUnit → sProp 𝕄} : wpc c (bodyP (F := F)) Q = wpc c (sigP 0 c >>= fun _ => sigP 1 c >>= fun _ => sigP 2 c >>= fun _ =>
    locP c >>= fun ab => waitB >>= fun _ => sends c first9 >>= fun _ => relay c all7 >>= fun _ => waitsR yLo >>= fun _ => sendT .x2 c >>= fun _ => waitRT .st >>= fun _ =>
    ownP c ab.1 ab.2 >>= fun MS => restP c MS.1 MS.2 >>= pure) Q := by
  simp only [bind_pure]
  unfold bodyP
  rw [wp_dev]

theorem sound (c : Dev nD) {X : S256x8192.Idx → Elt F .f32} {Q : PUnit → sProp 𝕄} :
    iprop(Env xs ws ∗ (∃ W, owes (c : Thread nD τ) (oweAll c) W) ∗ Start c ∗ Scr c
        ∗ owns (c : Thread nD τ) xM fullShare (xs c) ∗ owns (c : Thread nD τ) wM fullShare (ws c) ∗ owns (c : Thread nD τ) oM fullShare X)
      ⊢ iprop((((∃ W, owes (c : Thread nD τ) 0 W) ∗ Zeros c ∗ Scr c
          ∗ owns (c : Thread nD τ) xM fullShare (xs c) ∗ owns (c : Thread nD τ) wM fullShare (ws c) ∗ owns (c : Thread nD τ) oM fullShare (out7 xs ws c X)) -∗ Q ⟨⟩)
        -∗ wpc c bodyP Q) := by
  rw [bodyP_eq]
  have hr : (bigSepL order (Rcv (F := F) c) : sProp 𝕄) = iprop((bigSepL all7 fun s => Rcv c (.z s)) ∗ bigSepL yLo (Rcv c) ∗ Rcv c .st
      ∗ bigSepL xHi (Rcv c) ∗ bigSepL xLo (Rcv c) ∗ bigSepL yHi (Rcv c) ∗ Rcv c .zR ∗ Rcv c .x2 ∗ Rcv c .y2) := by
    rw [chain_perm (l := order) (l' := all7.map .z ++ (yLo ++ ([.st] ++ (xHi ++ (xLo ++ (yHi ++ [.zR, .x2, .y2])))))) (by decide) (by decide), bigSepL_append, bigSepL_append,
      bigSepL_append, bigSepL_append, bigSepL_append, bigSepL_append, bigSepL_map]
    rfl
  have hz : (bigSepL order (rZero (F := F) c) : sProp 𝕄) = iprop((bigSepL all7 fun s => rZero c (.z s)) ∗ bigSepL yLo (rZero c) ∗ rZero c .st
      ∗ bigSepL xHi (rZero c) ∗ bigSepL xLo (rZero c) ∗ bigSepL yHi (rZero c) ∗ rZero c .zR ∗ rZero c .x2 ∗ rZero c .y2) := by
    rw [chain_perm (l := order) (l' := all7.map .z ++ (yLo ++ ([.st] ++ (xHi ++ (xLo ++ (yHi ++ [.zR, .x2, .y2])))))) (by decide) (by decide), bigSepL_append, bigSepL_append,
      bigSepL_append, bigSepL_append, bigSepL_append, bigSepL_append, bigSepL_map]
    rfl
  have hs : (bigSepL leave' (Snt (F := F) c) : sProp 𝕄) = iprop(bigSepL first9 (Snt c) ∗ (bigSepL all7 fun s => Snt c (.x1 s)) ∗ (bigSepL all7 fun s => Snt c (.y1 s)) ∗ Snt c .x2) := by
    rw [bigSepL_append, bigSepL_append, bigSepL_append, bigSepL_map, bigSepL_map, bigSepL_singleton]
  have hb : (bigSepL [0, 1, 2] fun i : Fin 3 => dutyTok ER (barCell (nbr i c)) 0 i : sProp 𝕄)
      = iprop(dutyTok ER (barCell (nbr 0 c)) 0 0 ∗ dutyTok ER (barCell (nbr 1 c)) 0 1 ∗ dutyTok ER (barCell (nbr 2 c)) 0 2) := rfl
  unfold Start
  rw [hr, hb]
  iintro ⟨#HE, HO, ⟨⟨Ht0, Ht1, Ht2⟩, HcB, HaB, Htodo, ⟨HrZ, HryL, Hrst, Hrest⟩⟩, Hscr, Hx, Hw, Ho⟩ Hk
  ihave Hscr := (Entails.of_eq (scr_eq c)) $$ Hscr
  icases Hscr with ⟨Hlg, Hus, Hrs, Hur, Hrr, Hxr, Hyr, Hdr, Hss, Hsr⟩
  ihave Hg := (give_bufs c) $$ [Hur Hrr Hxr Hyr Hdr Hsr]
  · isplitl [Hur]; · iexact Hur
    isplitl [Hrr]; · iexact Hrr
    isplitl [Hxr]; · iexact Hxr
    isplitl [Hyr]; · iexact Hyr
    isplitl [Hdr] <;> iassumption
  icases Hg with ⟨Hg0, Hg1, Hg2⟩
  unfold oweAll
  -- the three signals, each handing a neighbour the buffers it will send to
  iapply (wp_sigP xs ws c 0 (oweOf c order + owB c 2 + owB c 1)) $$ [HO Ht0 Hg0]
  · isplitr; · iexact HE
    isplitl [HO]; · iexact HO
    isplitl [Ht0] <;> iassumption
  iintro HO
  iapply (wp_sigP xs ws c 1 (oweOf c order + owB c 2)) $$ [HO Ht1 Hg1]
  · isplitr; · iexact HE
    isplitl [HO]; · iexact HO
    isplitl [Ht1] <;> iassumption
  iintro HO
  iapply (wp_sigP xs ws c 2 (oweOf c order)) $$ [HO Ht2 Hg2]
  · isplitr; · iexact HE
    isplitl [HO]; · iexact HO
    isplitl [Ht2] <;> iassumption
  iintro HO
  -- the local matmul and statistics
  ihave Hlg := (any_elim c lgM fullShare) $$ Hlg
  icases Hlg with ⟨%X2, Hlg⟩
  ihave Hus := (any_elim c usM fullShare) $$ Hus
  icases Hus with ⟨%X3, Hus⟩
  ihave Hrs := (any_elim c rsM fullShare) $$ Hrs
  icases Hrs with ⟨%X4, Hrs⟩
  ihave Hss := (any_elim c ssM fullShare) $$ Hss
  icases Hss with ⟨%X5, Hss⟩
  iapply (wp_locP xs ws c) $$ [Hx Hw Hlg Hus Hrs Hss]
  · isplitl [Hx]; · iexact Hx
    isplitl [Hw]; · iexact Hw
    isplitl [Hlg]; · iexact Hlg
    isplitl [Hus]; · iexact Hus
    isplitl [Hrs] <;> iassumption
  iintro ⟨Hx, Hw, Hlg, Hus, Hrs, Hss⟩
  -- the barrier: the neighbours' buffers
  iapply (wp_waitB xs ws c) $$ [HO HcB HaB]
  · isplitr; · iexact HE
    isplitl [HO]; · iexact HO
    isplitl [HcB] <;> iassumption
  iintro ⟨HO, HzB, Hg⟩
  ihave Htodo := (todo_all c) $$ [Htodo Hg]
  · isplitl [Htodo] <;> iassumption
  -- the first transfers
  ihave Hrdy := (ready_first xs ws c X5) $$ [Hus Hrs Hss]
  · isplitl [Hus]; · iexact Hus
    isplitl [Hrs] <;> iassumption
  iapply (wp_sends xs ws c ((all7.flatMap fun s => [Tx.x1 s, Tx.y1 s]) ++ [.x2, .y2]) first9) $$ [HO Htodo Hrdy]
  · isplitr; · iexact HE
    isplitl [HO Htodo]
    · unfold Pend
      isplitl [HO]; · iexact HO
      iexact Htodo
    iexact Hrdy
  iintro ⟨HP, Hsnt⟩
  -- the relay
  iapply (wp_relay xs ws c [.x2, .y2] (by decide) all7) $$ [HP HrZ]
  · isplitr; · iexact HE
    isplitl [HP] <;> iassumption
  iintro ⟨HP, HzZ, Hs1, Hs2, Hur⟩
  ihave Hur := (show bigSepL all7 (Third xs ws c) ⊢ owns (c : Thread nD τ) urM fullShare.right.right (us xs ws (zp c)) from join7 c urM fullShare.right.right _) $$ Hur
  -- the `y` neighbour's lower slices, which go on to the `x` neighbour
  iapply (wp_waitsR xs ws c [.x2, .y2] yLo (by decide)) $$ [HP HryL]
  · isplitr; · iexact HE
    isplitl [HP] <;> iassumption
  iintro ⟨HP, HzyL, Hp⟩
  ihave Hp := (got_yLo xs ws c) $$ Hp
  ihave Hp := (owns_halves (c : Thread nD τ) (lo yrM) fullShare _).1 $$ Hp
  icases Hp with ⟨Hp, HyL⟩
  iapply (wp_sendT xs ws c .x2 [.y2] (X := fun j => us xs ws (zp (yn c)) (rlo.emb j)) (show _ = _ by rw [lands_x2 c]; rfl)) $$ [HP Hp]
  · isplitr; · iexact HE
    isplitl [HP]; · iexact HP
    iexact Hp
  iintro ⟨HP, Hsx2⟩
  -- the partner's statistics, and the first pieces of the result
  iapply (wp_waitRT xs ws c .st [.y2] (by decide)) $$ [HP Hrst]
  · isplitr; · iexact HE
    isplitl [HP] <;> iassumption
  iintro ⟨HP, Hzst, Hp⟩
  unfold recvPay
  ihave Hp := (ownsSat_elim (c : Thread nD τ) (dst .st) fullShare _) $$ Hp
  icases Hp with ⟨%Y, %hY, Hsr⟩
  iapply (wp_ownP xs ws c hY) $$ [Hsr Hlg Hur Ho]
  · isplitl [Hsr]; · iexact Hsr
    isplitl [Hlg]; · iexact Hlg
    isplitl [Hur] <;> iassumption
  iintro ⟨Hsr, Hlg, Hur, Ho⟩
  -- what arrives after
  iapply (wp_restP xs ws c) $$ [HP Hrest Hsnt Hs1 Hs2 Hsx2 HyL Ho]
  · isplitr; · iexact HE
    isplitl [HP]; · iexact HP
    isplitl [Hrest]; · iexact Hrest
    isplitl [Hsnt Hs1 Hs2 Hsx2]
    · rw [hs]
      isplitl [Hsnt]; · iexact Hsnt
      isplitl [Hs1]; · iexact Hs1
      isplitl [Hs2] <;> iassumption
    isplitl [HyL]; · iexact HyL
    iexact Ho
  iintro ⟨HP, Ho, HzR, HzS, Hps, Hrr, Hxr, Hyr, Hdr⟩
  iapply (wp_done c)
  imodintro
  iapply Hk
  unfold Pend
  icases HP with ⟨HO, -⟩
  isplitl [HO]; · iexact HO
  isplitl [HzB HzZ HzyL Hzst HzR HzS]
  · unfold Zeros
    rw [hz, chain_perm (l := order) (l' := leave) (by decide) (by decide)]
    isplitl [HzB]; · iexact HzB
    isplitl [HzS]; · iexact HzS
    isplitl [HzZ]; · iexact HzZ
    isplitl [HzyL]; · iexact HzyL
    isplitl [Hzst] <;> iassumption
  isplitl [Hlg Hur Hrr Hxr Hyr Hdr Hsr Hps]
  · iapply (scr_back c)
    unfold Held
    isplitr [Hps]
    · isplitl [Hlg]; · iapply (any_of c fullShare lgM _); iexact Hlg
      isplitl [Hur]; · iapply (any_of c fullShare.right.right urM _); iexact Hur
      isplitl [Hrr]; · iexact Hrr
      isplitl [Hxr]; · iexact Hxr
      isplitl [Hyr]; · iexact Hyr
      isplitl [Hdr]; · iexact Hdr
      iapply (any_of c fullShare srM _); iexact Hsr
    iexact Hps
  isplitl [Hx]; · iexact Hx
  isplitl [Hw]; · iexact Hw
  iexact Ho

end Cert.SoftmaxProof

end
-- ==== Proof.Cover.lean ====
/-
# The pieces of the result cover it

The six stores of the kernel body fill the result array, whatever it held before.
-/
module

public import proofs.«01_k».proof.Proof.Body

@[expose] public section

noncomputable section

namespace Cert.SoftmaxProof

open Cert.KernelIdeal Cert.KernelIdeal.Gen

open Idealize.ShloMosaic
open Idealize.ShloMosaic.TcCoe

variable {F : FTy → Type} [FloatOps F]

section Overlay

variable {s : Shape} {A : Type}

/-- Two arrays that agree where `P` holds agree on more of it after the same store. -/
theorem overlay_agree {r : Rect s} {X Y : s.Idx → A} (w : r.shape.Idx → A) {P : s.Idx → Prop} (h : ∀ j, P j → X j = Y j) :
    ∀ j, (P j ∨ j ∈ r.set) → r.overlay X w j = r.overlay Y w j := fun j hj => by
  by_cases hm : j ∈ r.set
  · obtain ⟨i, rfl⟩ := r.exists_idx_of_mem hm
    exact (Rect.overlay_emb r X w i).trans (Rect.overlay_emb r Y w i).symm
  · rw [Rect.overlay_of_not_mem _ _ _ hm, Rect.overlay_of_not_mem _ _ _ hm]
    exact h j (hj.resolve_right hm)

/-- An array that is `G` where `P` holds is `G` on more of it after a store of a piece of `G`. -/
theorem overlay_fill {r : Rect s} {X : s.Idx → A} {w : r.shape.Idx → A} {G : s.Idx → A} {P : s.Idx → Prop} (h : ∀ j, P j → X j = G j)
    (hw : ∀ i, w i = G (r.emb i)) : ∀ j, (P j ∨ j ∈ r.set) → r.overlay X w j = G j := fun j hj => by
  by_cases hm : j ∈ r.set
  · obtain ⟨i, rfl⟩ := r.exists_idx_of_mem hm
    exact (Rect.overlay_emb r X w i).trans (hw i)
  · rw [Rect.overlay_of_not_mem _ _ _ hm]
    exact h j (hj.resolve_right hm)

end Overlay

/-- A column of the result lies in the rectangle of columns `[a, a + n)`. -/
theorem mem_cols {off : Fin 2 → ℕ} {n : ℕ} (a : ℕ) (ho : off = ![0, a]) (h : ∀ k, off k + (![256, n] : Fin 2 → ℕ) k ≤ S256x8192.size k) (j : S256x8192.Idx)
    (h1 : a ≤ (j 1).val) (h2 : (j 1).val < a + n) : j ∈ (Rect.unit (s := S256x8192) off ![256, n] h).set := by
  subst ho
  rw [Rect.mem_set_unit]
  intro k
  have h0 : (j 0).val < 256 := (j 0).isLt
  fin_cases k
  · exact ⟨Nat.zero_le _, by simpa using h0⟩
  · exact ⟨h1, h2⟩

/-- Every cell of the result is in one of the six pieces. -/
theorem covered (c : Dev nD) (j : S256x8192.Idx) :
    (((((False ∨ j ∈ (o2 c).set) ∨ j ∈ (o3 c).set) ∨ j ∈ (o4 c).set) ∨ j ∈ (o5 c).set) ∨ j ∈ (o6 c).set) ∨ j ∈ (o7 c).set := by
  have hj : (j 1).val < 8192 := (j 1).isLt
  have hc : c.val < 8 := c.isLt
  have e2 := mem_cols (n := 4096) _ (k0_off2_eq c) (k0_off2_inb c) j
  have e3 := mem_cols (n := 896) _ (k0_off3_eq c) (k0_off3_inb c) j
  have e4 := mem_cols (n := 896) _ (k0_off4_eq c) (k0_off4_inb c) j
  have e5 := mem_cols (n := 896) _ (k0_off5_eq c) (k0_off5_inb c) j
  have e6 := mem_cols (n := 512) _ (k0_off6_eq c) (k0_off6_inb c) j
  have e7 := mem_cols (n := 896) _ (k0_off7_eq c) (k0_off7_inb c) j
  by_contra hn
  simp only [not_or] at hn
  obtain ⟨⟨⟨⟨⟨⟨-, n2⟩, n3⟩, n4⟩, n5⟩, n6⟩, n7⟩ := hn
  have f2 := not_and.mpr fun h1 h2 => n2 (e2 h1 h2)
  have f3 := not_and.mpr fun h1 h2 => n3 (e3 h1 h2)
  have f4 := not_and.mpr fun h1 h2 => n4 (e4 h1 h2)
  have f5 := not_and.mpr fun h1 h2 => n5 (e5 h1 h2)
  have f6 := not_and.mpr fun h1 h2 => n6 (e6 h1 h2)
  have f7 := not_and.mpr fun h1 h2 => n7 (e7 h1 h2)
  clear e2 e3 e4 e5 e6 e7 n2 n3 n4 n5 n6 n7
  generalize (j 1).val = n at *
  have hz : c.val % 2 = 0 ∨ c.val % 2 = 1 := by omega
  have hy : c.val / 2 % 2 = 0 ∨ c.val / 2 % 2 = 1 := by omega
  have hx : c.val / 4 = 0 ∨ c.val / 4 = 1 := by omega
  rcases hz with hz | hz <;> rcases hy with hy | hy <;> rcases hx with hx | hx <;> rw [hz] at f2 f3 f4 f5 f6 f7 <;> rw [hy, hx] at f3 f4 f5 f7 <;> omega

variable (xs : Dev nD → S256x512.Idx → Elt F .f32) (ws : Dev nD → S512x4096.Idx → Elt F .f32)

/-- The result does not depend on what the array held. -/
theorem out7_base (c : Dev nD) (X Y : S256x8192.Idx → Elt F .f32) : out7 xs ws c X = out7 xs ws c Y :=
  funext fun j => overlay_agree _ (overlay_agree _ (overlay_agree _ (overlay_agree _ (overlay_agree _ (overlay_agree _
    (P := fun _ => False) fun _ h => h.elim))))) j (covered c j)

/-- If each piece stored is that piece of `G`, the result is `G`. -/
theorem out7_fill (c : Dev nD) (X G : S256x8192.Idx → Elt F .f32) (h2 : ∀ i, p2 xs ws c i = G ((o2 c).emb i)) (h3 : ∀ i, p3 xs ws c i = G ((o3 c).emb i))
    (h4 : ∀ i, p4 xs ws c i = G ((o4 c).emb i)) (h5 : ∀ i, p5 xs ws c i = G ((o5 c).emb i)) (h6 : ∀ i, p6 xs ws c i = G ((o6 c).emb i))
    (h7 : ∀ i, p7 xs ws c i = G ((o7 c).emb i)) : out7 xs ws c X = G :=
  funext fun j => overlay_fill (overlay_fill (overlay_fill (overlay_fill (overlay_fill (overlay_fill
    (P := fun _ => False) (fun _ h => h.elim) h2) h3) h4) h5) h6) h7 j (covered c j)

/-- What device `c` computes. -/
@[irreducible] def Out (c : Dev nD) : S256x8192.Idx → Elt F .f32 := out7 xs ws c fun _ => p2 xs ws c (fun a => ⟨0, by revert a; decide⟩)

theorem out7_eq_Out (c : Dev nD) (X : S256x8192.Idx → Elt F .f32) : out7 xs ws c X = Out xs ws c := by
  unfold Out; exact out7_base xs ws c _ _

end Cert.SoftmaxProof
-- ==== Proof.Launch.lean ====
/-
# The launch

The eight devices together: the cells and tokens are dealt out, every device runs the body, and the arrays and
semaphores are read at the end.
-/
module

public import proofs.«01_k».proof.Proof.Cover
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.SoftmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.SiteBlocks (L lv)
open Idealize.ShloMosaic.TalkSites (tallyL tallyL_pos cred_tallyL Pay)

variable {F : FTy → Type} [FloatOps F]

local notation "𝕄" => MT nD τ sig ℕ (Elt F) ℕ UU ℕ

variable (m : (ℓ : Loc nD τ sig) → Buf (Elt F) ℓ) (ρ : Dev nD → PrngReg)

/-! ## The contents -/

/-- What a device's first operand is, staged; and its second. -/
def xst (c : Dev nD) : S256x512.Idx → Elt F .f32 := (win0_0.blk (0 : Fin 1)).view.read (Elt F) (m ((c : Thread nD τ).loc main_arg0))
def wst (c : Dev nD) : S512x4096.Idx → Elt F .f32 := (win0_1.blk (0 : Fin 1)).view.read (Elt F) (m ((c : Thread nD τ).loc main_arg1))

/-- What device `c`'s result is. -/
abbrev res (c : Dev nD) : S256x8192.Idx → Elt F .f32 := Out (xst m) (wst m) c

def s₀ : MemSt nD τ sig (Elt F) := ⟨m, fun _ => 0, ρ⟩

/-! ## The body's obligation -/

def start (c : Dev nD) : sProp 𝕄 := iprop(Env (xst m) (wst m) ∗ Start c)
def Φ₀ (c : Dev nD) : sProp 𝕄 := iprop(start m c ∗ Scr c)
def Φ₁ (c : Dev nD) : sProp 𝕄 := iprop(Zeros (F := F) c ∗ Scr c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xst m c
    | ⟨1, _⟩ => wst m c
    | ⟨2, _⟩ => res m c
  Φ t := match t with
    | ⟨0, _⟩ => Φ₀ m c
    | ⟨_ + 1, _⟩ => Φ₁ c
  q _ := fullShare
  owed t := match t with
    | ⟨0, _⟩ => oweAll c
    | ⟨_ + 1, _⟩ => 0

theorem before_x (c : Dev nD) (d) : (dats m ρ 0 c).before (0 : Fin 3) t0_0 d = xst m c := by
  unfold Dat.before; rw [if_pos (fetch0_0 t0_0)]; rfl
theorem before_w (c : Dev nD) (d) : (dats m ρ 0 c).before (1 : Fin 3) t0_0 d = wst m c := by
  unfold Dat.before; rw [if_pos (fetch0_1 t0_0)]; rfl

/-- The body as the launch calls it. -/
theorem call_eq : defs₀ (F := F) Proc.tc cfg0.body (cfg0.bodyArgs t0_0 (cfg0.slots t0_0)) = bodyP :=
  (show _ = bodyAt0 (F := F) t0_0 from rfl).trans (body_eq t0_0)

theorem after_x (c : Dev nD) : (dats m ρ 0 c).after (0 : Fin 3) t0_0 = xst m c := rfl
theorem after_w (c : Dev nD) : (dats m ρ 0 c).after (1 : Fin 3) t0_0 = wst m c := rfl
theorem after_o (c : Dev nD) : (dats m ρ 0 c).after (2 : Fin 3) t0_0 = res m c := rfl

theorem body_obligation (c : Dev nD) : BodyObligation (dats (F := F) m ρ 0 c) (defs₀ (F := F)) 𝒱₀ 0 Set.univ := fun t => by
  rw [fin_N0 t]
  rw [bigSep_W0, bigSep_W0, call_eq]
  dsimp only
  rw [after_x, after_w, after_o]
  simp only [before_x, before_w]
  rw [show (dats m ρ 0 c).Φ t0_0.castSucc = Φ₀ m c from rfl, show (dats m ρ 0 c).Φ t0_0.succ = Φ₁ c from rfl]
  unfold Φ₀ start Dat.owesAt Pipeline.owesWithin
  rw [show (dats m ρ 0 c).owed t0_0.castSucc = oweAll c from rfl]
  iintro ⟨⟨⟨#HE, Hst⟩, Hscr⟩, ⟨%W, %hW, HO⟩, ⟨%d0, Hx⟩, ⟨%d1, Hw⟩, ⟨%d2, Ho⟩⟩
  iapply (sound (xst m) (wst m) c) $$ [Hst Hscr HO Hx Hw Ho]
  · isplitr; · iexact HE
    isplitl [HO]; · iexists W; iexact HO
    isplitl [Hst]; · iexact Hst
    isplitl [Hscr]; · iexact Hscr
    isplitl [Hx]; · iexact Hx
    isplitl [Hw]; · iexact Hw
    iexact Ho
  rw [out7_eq_Out]
  iintro ⟨⟨%W', HO⟩, Hz, Hscr, Hx, Hw, Ho⟩
  unfold Φ₁
  rw [show (dats m ρ 0 c).owed t0_0.succ = 0 from rfl]
  isplitl [Hz Hscr]
  · isplitl [Hz]; · iexact Hz
    iexact Hscr
  isplitl [HO]
  · iexists W'
    isplitr; · ipureintro; exact fun _ _ => Or.inl trivial
    iexact HO
  isplitl [Hx]; · iexact Hx
  isplitl [Hw]; · iexact Hw
  iexact Ho

end Cert.SoftmaxProof
-- ==== Proof.Deal.lean ====
/-
# The cells and tokens dealt out

From the launch's shares of the ghost state to what each device starts the body with.
-/
module

public import proofs.«01_k».proof.Proof.Launch
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.SoftmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.SiteBlocks (L lv)
open Idealize.ShloMosaic.TalkSites (tallyL tallyL_pos cred_tallyL Pay)

variable {F : FTy → Type} [FloatOps F]

local notation "𝕄" => MT nD τ sig ℕ (Elt F) ℕ UU ℕ

variable (xs : Dev nD → S256x512.Idx → Elt F .f32) (ws : Dev nD → S512x4096.Idx → Elt F .f32)

/-! ## Lists of cells and tokens -/

theorem univ_Ci : (Finset.univ : Finset Ci) = (order.map (fun t => (false, t)) ++ order.map (fun t => (true, t))).toFinset := by decide
theorem univ_key : (Finset.univ : Finset (Option Ci))
    = (none :: (order.map (fun t => some (false, t)) ++ order.map (fun t => some (true, t)))).toFinset := by decide
theorem univ_tok : (Finset.univ : Finset (Fin 3 ⊕ Ci))
    = (([0, 1, 2] : List (Fin 3)).map Sum.inl ++ (order.map (fun t => Sum.inr (false, t)) ++ order.map (fun t => Sum.inr (true, t))) : List (Fin 3 ⊕ Ci)).toFinset := by decide

/-- Something of every cell of a device: of its barrier's, of the departures' and of the arrivals'. -/
theorem cells_chain (c : Dev nD) (Φ : GSem nD τ sig → sProp 𝕄) :
    (bigSep Finset.univ fun k : Option Ci => Φ (kcell (c, k)))
      = iprop(Φ (barCell c) ∗ (bigSepL order fun t => Φ (sCell t c)) ∗ bigSepL order fun t => Φ (rCell t c)) := by
  rw [chain_univ _ univ_key (by decide), bigSepL_cons', bigSepL_append, bigSepL_map, bigSepL_map]; rfl

theorem ownSemFacts : Pipeline.OwnSemFacts cfg0.spec osem := by decide

theorem ownSems0_eq (c : Dev nD) : (Pipeline.ownSems0 (Ix := ℕ) (Name := ℕ) (U := UU) (Lvl := ℕ) (Val := Elt F) (τ := τ) osem c : sProp 𝕄)
    = iprop((bigSepL order (sZero c)) ∗ bigSepL order (rZero c)) := by
  rw [Pipeline.ownSems0_eq_of_list c osem _ univ_Ci (by decide), bigSepL_append, bigSepL_map, bigSepL_map]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem kcell_injective : Function.Injective (kcell : Dev nD × Option Ci → GSem nD τ sig) := by
  rintro ⟨c, k⟩ ⟨c', k'⟩ h
  have h1 : c = c' := congrArg (fun g : GSem nD τ sig => g.1.1) h
  have h2 : csem k = csem k' := congrArg Prod.snd h
  subst h1
  have : k = k' := by
    rcases k with _ | p <;> rcases k' with _ | p'
    · rfl
    · cases h2
    · cases h2
    · exact congrArg some (semOf_inj (SemLoc.dma.inj h2))
  subst this; rfl
def cellSet : Finset (GSem nD τ sig) := Finset.univ.map ⟨kcell, kcell_injective⟩

/-- The duty tokens: three for a device's barrier cell, one for each of its other cells. -/
abbrev tokOf (cj : Dev nD × (Fin 3 ⊕ Ci)) : GSem nD τ sig × ℕ × Fin 3 := match cj.2 with
  | .inl i => (barCell cj.1, 0, i)
  | .inr p => (kcell (cj.1, some p), 0, 0)
theorem tokOf_injective : Function.Injective (tokOf : Dev nD × (Fin 3 ⊕ Ci) → GSem nD τ sig × ℕ × Fin 3) := by
  rintro ⟨c, j⟩ ⟨c', j'⟩ h
  rcases j with i | p <;> rcases j' with i' | p'
  · have h1 : c = c' := congrArg (fun x : GSem nD τ sig × ℕ × Fin 3 => x.1.1.1) h
    have h2 : i = i' := congrArg (fun x : GSem nD τ sig × ℕ × Fin 3 => x.2.2) h
    rw [h1, h2]
  · exact absurd (congrArg (fun x : GSem nD τ sig × ℕ × Fin 3 => x.1.2) h) (fun h' => by cases h')
  · exact absurd (congrArg (fun x : GSem nD τ sig × ℕ × Fin 3 => x.1.2) h) (fun h' => by cases h')
  · have h1 := kcell_injective (congrArg (fun x : GSem nD τ sig × ℕ × Fin 3 => x.1) h)
    have h2 : c = c' := congrArg Prod.fst h1
    have h3 : p = p' := Option.some.inj (congrArg Prod.snd h1)
    rw [h2, h3]
def tokSet : Finset (GSem nD τ sig × ℕ × Fin 3) := Finset.univ.map ⟨tokOf, tokOf_injective⟩

def u₀ : UU := (initOf (Pipeline.cells cfgs cellOf_inj) (Pipeline.launchToks cfgs cellOf_inj), initOf cellSet tokSet)

/-! ## What is dealt to a device -/

/-- The tokens of device `c`'s own cells. -/
def toks (c : Dev nD) : sProp 𝕄 :=
  iprop((bigSepL [0, 1, 2] fun i : Fin 3 => dutyTok ER (barCell c) 0 i) ∗ (bigSepL order fun t => dutyTok ER (sCell t c) 0 0)
    ∗ bigSepL order fun t => dutyTok ER (rCell t c) 0 0)
/-- The tokens of the duties that device `c` pays. -/
def payToks (c : Dev nD) : sProp 𝕄 :=
  iprop((bigSepL [0, 1, 2] fun i : Fin 3 => dutyTok ER (barCell (nbr i c)) 0 i) ∗ (bigSepL order fun t => dutyTok ER (sCell t c) 0 0)
    ∗ bigSepL order fun t => dutyTok ER (rCell t (peer t c)) 0 0)

def G (c : Dev nD) : sProp 𝕄 :=
  iprop((bigSep Finset.univ fun k : Option Ci => roundState ER (Rd xs ws) (kcell (c, k)) 0)
    ∗ (bigSep Finset.univ fun k : Option Ci => iprop(atPos ER (kcell (c, k)) 0 ∅ 0 ∗ reached ER (kcell (c, k)) 0)) ∗ toks c)

/-- A device's positions and the tokens it pays with. -/
def own (c : Dev nD) : sProp 𝕄 :=
  iprop((bigSep Finset.univ fun k : Option Ci => atPos ER (kcell (c, k)) 0 ∅ 0) ∗ payToks c)
def G' (c : Dev nD) : sProp 𝕄 := iprop((∃ K, recs xs ws K) ∗ own c)

theorem fund_cells : BI.own (ER (initOf cellSet tokSet)) ⊢ (|==> bigSep Finset.univ (G xs ws) : sProp 𝕄) := by
  have hX (Φ : GSem nD τ sig → sProp 𝕄) : bigSep cellSet Φ = bigSep Finset.univ fun c : Dev nD => bigSep Finset.univ fun k : Option Ci => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod]
    exact bigSep_congr fun c _ => by
      unfold toks; rw [chain_univ _ univ_tok (by decide), bigSepL_append, bigSepL_append, bigSepL_map, bigSepL_map, bigSepL_map]; rfl
  iintro HX
  imod (Rounds.fund ER (Rd xs ws) cellSet tokSet) $$ HX with ⟨Hst, Hr, Hat, Htok⟩
  imodintro
  ihave Hst' := (Entails.of_eq (hX fun g => roundState ER (Rd xs ws) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-! ## The invariants -/

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Option Ci => semVal (kcell (c, k)) 0 : sProp 𝕄) := by
  rw [ownSems0_eq, unscopedSems0_eq, cells_chain c fun g => semVal g 0]
  iintro ⟨⟨HS, HV⟩, HB⟩
  isplitl [HB]; · iexact HB
  isplitl [HS]; · iexact HS
  iexact HV

theorem core_alloc (c : Dev nD) :
    iprop(Pipeline.ownSems0 (Ix := ℕ) (Name := ℕ) (U := UU) (Lvl := ℕ) (Val := Elt F) (τ := τ) osem c ∗ unscopedSems0 c ∗ G xs ws c)
      ⊢ |={Set.univ}=> iprop((bigSep Finset.univ fun k => iprop(∃ κ : ℕ, cellInv ER (Rd xs ws) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos]; · iexact Hos
    iexact Hus
  imod (show iprop((bigSep Finset.univ fun k : Option Ci => semVal (kcell (c, k)) 0) ∗ bigSep Finset.univ fun k : Option Ci => roundState ER (Rd xs ws) (kcell (c, k)) 0)
      ⊢ (|={Set.univ}=> bigSep Finset.univ fun k => iprop(∃ κ : ℕ, cellInv ER (Rd xs ws) κ (kcell (c, k))) : sProp 𝕄) from by
        rw [← bigSep_sep']
        exact (bigSep_mono fun k _ => (Rounds.body_intro ER (Rd xs ws) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-! ## The tokens carried to those who pay -/

/-- Something dealt by a list on each device, each entry carried to a device of its own. -/
theorem carry {A : Type} (l : List A) (f : A → Dev nD → Dev nD) (hf : ∀ a c, f a (f a c) = c) (Φ : A → Dev nD → sProp 𝕄) :
    (bigSep Finset.univ fun c : Dev nD => bigSepL l fun a => Φ a c) = bigSep Finset.univ fun c : Dev nD => bigSepL l fun a => Φ a (f a c) := by
  induction l with
  | nil => rfl
  | cons a l ih =>
    have e1 := bigSep_univ_equiv (⟨f a, f a, hf a, hf a⟩ : Dev nD ≃ Dev nD) (Φ a)
    simp only [bigSepL_cons', bigSep_sep']
    rw [ih, e1]; rfl

theorem toks_around : (bigSep Finset.univ fun c : Dev nD => (toks c : sProp 𝕄)) = bigSep Finset.univ fun c : Dev nD => payToks c := by
  unfold toks payToks
  rw [bigSep_sep', bigSep_sep', bigSep_sep', bigSep_sep', carry [0, 1, 2] nbr nbr_nbr fun (i : Fin 3) c => dutyTok ER (barCell c) 0 i,
    carry order peer peer_peer fun t c => dutyTok ER (rCell t c) 0 0]

theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd xs ws) κ (kcell (c, k))))
          ∗ (bigSep Finset.univ fun k => iprop(atPos ER (kcell (c, k)) 0 ∅ 0 ∗ reached ER (kcell (c, k)) 0)) ∗ toks c) : sProp 𝕄)
      ⊢ bigSep Finset.univ (G' xs ws) := by
  rw [bigSep_sep', bigSep_sep', ← bigSep_univ_prod (fun ck : Dev nD × Option Ci => iprop(∃ κ : ℕ, cellInv ER (Rd xs ws) κ (kcell ck))),
    bigSep_congr (s := Finset.univ) (fun (c : Dev nD) _ => bigSep_sep' Finset.univ (fun k : Option Ci => (atPos ER (kcell (c, k)) 0 ∅ 0 : sProp 𝕄)) (fun k => reached ER (kcell (c, k)) 0)),
    bigSep_sep', ← bigSep_univ_prod (fun ck : Dev nD × Option Ci => (reached ER (kcell ck) 0 : sProp 𝕄)), toks_around]
  iintro ⟨HI, ⟨Hat, #HR⟩, Htok⟩
  ihave HK := (BI.bigSep_exists_pi Finset.univ (fun (ck : Dev nD × Option Ci) (κ : ℕ) => (cellInv ER (Rd xs ws) κ (kcell ck) : sProp 𝕄))) $$ HI
  icases HK with ⟨%K, #HI⟩
  iapply (share_out (R := iprop(∃ K, recs xs ws K)) (Φ := own) fun c _ => show iprop((∃ K, recs xs ws K) ∗ own c) ⊢ G' xs ws c from .rfl)
  isplitr
  · iexists K; unfold recs; rw [bigSep_sep']
    isplitr; · iexact HI
    iexact HR
  · unfold own; rw [bigSep_sep']
    isplitl [Hat]; · iexact Hat
    iexact Htok

/-- All devices' semaphores and shares together become what each device starts with. -/
theorem glob : (bigSep Finset.univ fun c => iprop(Pipeline.ownSems0 (Ix := ℕ) (Name := ℕ) (U := UU) (Lvl := ℕ) (Val := Elt F) (τ := τ) osem c ∗ unscopedSems0 c ∗ G xs ws c) : sProp 𝕄)
    ⊢ |={Set.univ}=> bigSep Finset.univ (G' xs ws) :=
  ((bigSep_mono fun c _ => core_alloc xs ws c).trans (bigSep_fupd _ _)).trans (BI.fupd_mono (regroup xs ws))

/-! ## The credit -/

/-- What comes in at device `c`: three units at its barrier, and its arrivals. -/
def due (c : Dev nD) : List (Pay nD τ sig) := (barCell c, 1, 3) :: order.map fun t => (rCell t c, lvl t, N t)

theorem sum_owB (i : Fin 3) : (∑ d : Dev nD, owB d i) = ∑ d : Dev nD, (tallyAt (barCell d) 1 1 : CellTallies nD τ sig ℕ) :=
  Equiv.sum_comp (⟨nbr i, nbr i, nbr_nbr i, nbr_nbr i⟩ : Dev nD ≃ Dev nD) fun d => (tallyAt (barCell d) 1 1 : CellTallies nD τ sig ℕ)

theorem sum_pays (l : List Tx) :
    (∑ d : Dev nD, oweOf d l) = ∑ d : Dev nD, (tallyL (l.map fun t => (rCell t d, lvl t, N t)) : CellTallies nD τ sig ℕ) := by
  induction l with
  | nil => rfl
  | cons t l ih =>
    simp only [oweOf_cons, List.map_cons, tallyL, Finset.sum_add_distrib]
    rw [ih, add_comm]
    exact congrArg (· + _) (Equiv.sum_comp (⟨peer t, peer t, peer_peer t, peer_peer t⟩ : Dev nD ≃ Dev nD) fun d => (tallyAt (rCell t d) (lvl t) (N t) : CellTallies nD τ sig ℕ))

theorem sum_owe : (∑ d : Dev nD, oweAll d) = ∑ d : Dev nD, tallyL (due d) := by
  have e3 : ∀ d : Dev nD, (tallyAt (barCell d) 1 3 : CellTallies nD τ sig ℕ) = tallyAt (barCell d) 1 1 + tallyAt (barCell d) 1 1 + tallyAt (barCell d) 1 1 := fun d => by
    rw [tallyAt_add, tallyAt_add]
  unfold oweAll due
  simp only [tallyL, Finset.sum_add_distrib, sum_owB, sum_pays]
  rw [show (∑ d : Dev nD, Pay.tally (barCell d, 1, 3)) = ∑ d : Dev nD, (tallyAt (barCell d) 1 3 : CellTallies nD τ sig ℕ) from rfl,
    Finset.sum_congr rfl fun d _ => e3 d, Finset.sum_add_distrib, Finset.sum_add_distrib]
  abel

theorem due_own (c : Dev nD) (g : GSem nD τ sig) (h : (tallyL (due c) : CellTallies nD τ sig ℕ) g ≠ 0) : g.1 = (c.tc : Thread nD τ) := by
  obtain ⟨i, hi⟩ := Finsupp.ne_iff.mp h
  obtain ⟨x, hx, rfl, -⟩ := tallyL_pos (Nat.pos_of_ne_zero hi)
  rcases List.mem_cons.mp hx with rfl | hx
  · rfl
  · obtain ⟨t, -, rfl⟩ := List.mem_map.mp hx; rfl

theorem creds (c : Dev nD) : (Pipeline.launchCred oweAll c : sProp 𝕄)
    = iprop(cred (tallyAt (barCell c) 1 3) ∗ bigSepL order fun t => cred (tallyAt (rCell t c) (lvl t) (N t))) := by
  rw [Pipeline.launchCred_of_sum oweAll (fun c => tallyL (due c)) sum_owe due_own c, cred_tallyL]
  unfold due
  rw [bigSepL_cons', bigSepL_map]

/-- Everything a device owes lies at a level above zero. -/
theorem oweAll_pos (c : Dev nD) (g : GSem nD τ sig) (k : ℕ) (h : 0 < oweAll c g k) : k ∈ L nL g ∧ 0 < k := by
  have e : oweAll c = tallyL (pays c order ++ [(barCell (nbr 2 c), 1, 1), (barCell (nbr 1 c), 1, 1), (barCell (nbr 0 c), 1, 1)]) := by
    unfold oweAll
    rw [TalkSites.tallyL_append]
    simp only [tallyL, add_zero, ← add_assoc]; rfl
  rw [e] at h
  obtain ⟨x, hx, rfl, rfl⟩ := tallyL_pos h
  rcases List.mem_append.mp hx with hx | hx
  · obtain ⟨t, -, rfl⟩ := List.mem_map.mp hx
    exact ⟨SiteBlocks.mem_L' rfl (lvl_lt t), by cases t <;> exact Nat.succ_pos _⟩
  · have : ∃ i : Fin 3, x = (barCell (nbr i c), 1, 1) := by
      simp only [List.mem_cons, List.not_mem_nil, or_false] at hx
      rcases hx with rfl | rfl | rfl
      exacts [⟨2, rfl⟩, ⟨1, rfl⟩, ⟨0, rfl⟩]
    obtain ⟨i, rfl⟩ := this
    exact ⟨SiteBlocks.mem_L' rfl (show 1 < nL by decide), Nat.one_pos⟩

/-- A device's start, from what it was dealt and the credit. -/
theorem start_of (c : Dev nD) : iprop(own c ∗ Pipeline.launchCred oweAll c) ⊢ (Start c : sProp 𝕄) := by
  unfold own Start payToks
  rw [creds, cells_chain c fun g => atPos ER g 0 ∅ 0]
  unfold Todo0 Rcv
  rw [chain_sep, chain_sep, chain_sep]
  iintro ⟨⟨⟨HaB, HaS, HaR⟩, HtB, HtS, HtR⟩, HcB, HcR⟩
  isplitl [HtB]; · iexact HtB
  isplitl [HcB]; · iexact HcB
  isplitl [HaB]; · iexact HaB
  isplitl [HtS HtR HaS]
  · isplitl [HtS]; · iexact HtS
    isplitl [HtR]; · iexact HtR
    iexact HaS
  isplitl [HcR]; · iexact HcR
  iexact HaR

end Cert.SoftmaxProof
-- ==== Proof.Run.lean ====
/-
# The run

Every run of the program ends, with the arrays and semaphores as said.
-/
module

public import proofs.«01_k».proof.Proof.Deal
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.SoftmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.SiteBlocks (L lv)
open Idealize.ShloMosaic.TalkSites (tallyL tallyL_pos cred_tallyL Pay)

variable {F : FTy → Type} [FloatOps F]

local notation "𝕄" => MT nD τ sig ℕ (Elt F) ℕ UU ℕ

variable (m : (ℓ : Loc nD τ sig) → Buf (Elt F) ℓ) (ρ : Dev nD → PrngReg)

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts (L nL) lv
        ∗ Pipeline.launchCred oweAll c ∗ prngReg c (ρ c) ∗ G' (xst m) (wst m) c)
      ⊢ |={Set.univ}=> iprop(start m c ∗ emp) := by
  unfold G' start Env
  iintro ⟨-, #Hlev, Hcr, -, #HK, Hown⟩
  imodintro
  isplitl
  · isplitr
    · isplitl; · iexact HK
      iexact Hlev
    iapply (start_of (F := F) c)
    isplitl [Hown]; · iexact Hown
    iexact Hcr
  · iempintro

/-- A whole buffer at any contents, in the two ways of saying it. -/
theorem any_whole (c : Dev nD) (b : Ref sig .tc) :
    (iprop(∃ f : Buf (Elt F) ((c : Thread nD τ).loc b), ((c : Thread nD τ).loc b) ↦{fullShare} f) : sProp 𝕄)
      = ownsSat (c : Thread nD τ) (Memref.whole b) fullShare (fun _ => True) := by
  unfold ownsSat
  simp only [Memref.view_whole, View.set_whole]
  have h1 : (iprop(∃ f : Buf (Elt F) ((c : Thread nD τ).loc b), ((c : Thread nD τ).loc b) ↦{fullShare} f) : sProp 𝕄)
      ⊢ iprop(∃ f : Buf (Elt F) ((c : Thread nD τ).loc b), ⌜True⌝ ∗ (((c : Thread nD τ).loc b) ↦{fullShare} f)) := by
    iintro ⟨%f, H⟩
    iexists f
    isplitr; · ipureintro; trivial
    iexact H
  have h2 : (iprop(∃ f : Buf (Elt F) ((c : Thread nD τ).loc b), ⌜True⌝ ∗ (((c : Thread nD τ).loc b) ↦{fullShare} f)) : sProp 𝕄)
      ⊢ iprop(∃ f : Buf (Elt F) ((c : Thread nD τ).loc b), ((c : Thread nD τ).loc b) ↦{fullShare} f) := by
    iintro ⟨%f, -, H⟩
    iexists f; iexact H
  exact BI.Entails.antisymm h1 h2

theorem scr_rest (c : Dev nD) : (Pipeline.scopedRest cfg0.spec c : sProp 𝕄) = Scr c := by
  rw [scr_eq]
  refine (scopedRest0_eq c).trans ?_
  simp only [any_whole]
  rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_rest]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scr_rest, ownSems0_eq, unscopedSems0_eq]
  unfold Φ₁ Zeros
  iintro ⟨⟨HB, HS, HR⟩, Hscr⟩
  isplitl [HB]; · iexact HB
  isplitl [HS HR]
  · isplitl [HS]; · iexact HS
    iexact HR
  iexact Hscr

theorem waits (c : Dev nD) : (levAts (L nL) lv : sProp 𝕄) ⊢ Pipeline.cellsWaits cfgs (dats m ρ) 0 0 c :=
  Pipeline.cellsWaits_intro cfgs (dats m ρ) 0 0 c fun w s t => SiteBlocks.mayWait_of (by decide) c _ _ (by
    rcases t with ⟨_ | _, ht⟩
    · exact oweAll_pos c
    · exact fun g k h => absurd h (Nat.lt_irrefl 0))

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every weakly fair run of the eight devices ends, and it ends with
    each array as `finalA` says and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := oweAll) (howed₀ := fun _ => rfl) (howedN := fun _ => rfl)
    (L := L nL) (lv := lv) (hL := SiteBlocks.hL nL) (hwaits := waits m ρ)
    (G := G (xst m) (wst m)) (G' := G' (xst m) (wst m)) (u₀ := u₀)
    (hu₀ := by
      unfold u₀
      iintro Hu
      ihave H := (ownU_pair _ _) $$ Hu
      icases H with ⟨HP, HX⟩
      imod (fund_cells (xst m) (wst m)) $$ HX with HG
      imodintro
      isplitl [HP]; · iexact HP
      iexact HG)
    (hglob := glob (xst m) (wst m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The operands end as they began. -/
theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

end Cert.SoftmaxProof
-- ==== Proof.Frames.lean ====
module

public import proofs.«01_k».proof.Proof.Run
public import proofs.«01_k».proof.Proof.Gen.ReferenceIdeal.Run
public import proofs.«01_k».proof.Proof.Gen.Kernel
public import proofs.«01_k».proof.Defs
public import Idealize.ShloMosaic.Lib.Quiescent

/-! What each of the three programs leaves of its operands. -/

@[expose] public section

noncomputable section

namespace Cert.SoftmaxProof

open Idealize.ShloMosaic Idealize.SL.Sem

section
open Cert.KernelIdeal
variable {F : FTy → Type} [FloatOps F]

/-- The run with the result's value dropped. -/
theorem run_frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun _ h => ⟨fun c => ⟨(h.1 c 0).trans (finalA_x m ρ c), (h.1 c 1).trans (finalA_w m ρ c)⟩, h.2⟩)
    (run_main m ρ)
end

/-- The two programs have the same text, so the same table of bodies over the words. -/
theorem defs₀_words : Cert.Kernel.defs₀ (F := Bits) = Cert.KernelIdeal.defs₀ (F := Bits) := by
  refine congrArg Defs.onTc (funext fun l => funext fun a => ?_)
  match l, a with
  | ⟨0, _⟩, (t, s) => exact rfl

theorem defs_words : Cert.Kernel.defs (F := Bits) = Cert.KernelIdeal.defs (F := Bits) := congrArg (Pipeline.defs _) defs₀_words

/-- The words' program ends with its operands as they began and no count left. -/
theorem frame_kernel : Cert.quiescent_Kernel := fun m ρ _ => by
  rw [defs_words]
  exact run_frame (F := Bits) m ρ

/-- So does the same program over the extended reals. -/
theorem frame_kernelIdeal : Cert.quiescent_KernelIdeal := fun m ρ _ => run_frame (F := Ideal) m ρ

/-- The same, on arguments that are finite. -/
theorem frame_kernelIdeal_finite [Cert.Pre_finite_KernelIdeal.Facts] : Cert.quiescent_KernelIdeal_pre_finite_KernelIdeal :=
  fun m ρ _ => run_frame (F := Ideal) m ρ

/-- So does the plain softmax. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- The same, on arguments that are finite. -/
theorem frame_reference_finite [Cert.Pre_finite_ReferenceIdeal.Facts] : Cert.quiescent_ReferenceIdeal_pre_finite_ReferenceIdeal :=
  fun m ρ _ => (θ_run Cert.ReferenceIdeal.defs _ _).mono (fun r h => ⟨fun c => (h c).2, sem_eq_zero_of_no_sems (by decide) r.2⟩)
    (Cert.ReferenceIdeal.Value.run m ρ)

end Cert.SoftmaxProof
-- ==== Proof.RowMath.lean ====
/-
# The softmax of a row, from its two halves

Facts about one row of logits: its greatest entry and its sum of exponentials are found from those of its two halves.
-/
module

public import Idealize.ShloMosaic.Lib.Pointwise
public import Idealize.ShloMosaic.Lib.IdealHost

@[expose] public section

noncomputable section

namespace Cert.SoftmaxProof

open Idealize.ShloMosaic

/-- Every entry is a real number. -/
def Finite {ι : Type} (f : ι → EReal) : Prop := ∀ i, ∃ r : ℝ, f i = r

/-- The greatest entry. -/
def top {ι : Type} [Fintype ι] (f : ι → EReal) : EReal := Finset.univ.fold max ⊥ f

/-- The sum of the exponentials of the entries less `q`. -/
def tot {ι : Type} [Fintype ι] (f : ι → EReal) (q : EReal) : EReal := ∑ i, Ideal.exp (f i - q)

theorem top_eq_sup {ι : Type} [Fintype ι] (f : ι → EReal) : top f = Finset.univ.sup f := rfl

theorem top_real {ι : Type} [Fintype ι] [Nonempty ι] {f : ι → EReal} (h : Finite f) : ∃ r : ℝ, top f = r := by
  obtain ⟨i, _, e⟩ := Finset.exists_mem_eq_sup Finset.univ Finset.univ_nonempty f
  obtain ⟨r, hr⟩ := h i
  exact ⟨r, (top_eq_sup f).trans (e.trans hr)⟩

theorem coe_total {ι : Type} (s : Finset ι) (g : ι → ℝ) : ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

theorem tot_coe {ι : Type} [Fintype ι] (g : ι → ℝ) (q : ℝ) :
    tot (fun i => (g i : EReal)) q = ((∑ i, Real.exp (g i - q) : ℝ) : EReal) := by
  unfold tot
  rw [← coe_total]
  refine Finset.sum_congr rfl fun i _ => ?_
  rw [← EReal.coe_sub, Ideal.exp_coe]

theorem tot_ne_zero {ι : Type} [Fintype ι] [Nonempty ι] {f : ι → EReal} (h : Finite f) (q : ℝ) : tot f q ≠ 0 := by
  choose g hg using h
  obtain rfl : f = fun i => (g i : EReal) := funext hg
  rw [tot_coe, Ne, EReal.coe_eq_zero]
  exact (Finset.sum_pos (fun i _ => Real.exp_pos _) Finset.univ_nonempty).ne'

/-- A sum of exponentials taken against one number, moved to another. -/
theorem tot_shift {ι : Type} [Fintype ι] {f : ι → EReal} (h : Finite f) (p q : ℝ) :
    tot f p * Ideal.exp ((p : EReal) - q) = tot f q := by
  choose g hg using h
  obtain rfl : f = fun i => (g i : EReal) := funext hg
  rw [tot_coe, tot_coe, ← EReal.coe_sub, Ideal.exp_coe, ← EReal.coe_mul, Finset.sum_mul]
  congr 1
  refine Finset.sum_congr rfl fun i _ => ?_
  rw [← Real.exp_add]
  congr 1
  ring

/-- Column `k` of half `z`, among all the columns. -/
def col (z : ℕ) (hz : z < 2) (k : Fin 4096) : Fin 8192 := ⟨4096 * z + k.val, by have := k.isLt; omega⟩

theorem col_surj (j : Fin 8192) : (∃ k, j = col 0 (by decide) k) ∨ ∃ k, j = col 1 (by decide) k := by
  have := j.isLt
  by_cases h : j.val < 4096
  · exact .inl ⟨⟨j.val, h⟩, Fin.ext (by unfold col; dsimp only; omega)⟩
  · exact .inr ⟨⟨j.val - 4096, by omega⟩, Fin.ext (by unfold col; dsimp only; omega)⟩

theorem top_halves (f : Fin 8192 → EReal) :
    top f = max (top fun k => f (col 0 (by decide) k)) (top fun k => f (col 1 (by decide) k)) := by
  simp only [top_eq_sup]
  refine le_antisymm (Finset.sup_le fun j _ => ?_) (max_le (Finset.sup_le fun k _ => Finset.le_sup (f := f) (Finset.mem_univ _))
    (Finset.sup_le fun k _ => Finset.le_sup (f := f) (Finset.mem_univ _)))
  rcases col_surj j with ⟨k, rfl⟩ | ⟨k, rfl⟩
  · exact le_max_of_le_left (Finset.le_sup (f := fun k => f (col 0 (by decide) k)) (Finset.mem_univ k))
  · exact le_max_of_le_right (Finset.le_sup (f := fun k => f (col 1 (by decide) k)) (Finset.mem_univ k))

theorem tot_halves (f : Fin 8192 → EReal) (q : EReal) :
    tot f q = tot (fun k => f (col 0 (by decide) k)) q + tot (fun k => f (col 1 (by decide) k)) q := by
  unfold tot
  refine (Fin.sum_univ_add (a := 4096) (b := 4096) (fun j => Ideal.exp (f j - q))).trans ?_
  refine congrArg₂ (· + ·) (Finset.sum_congr rfl fun k _ => ?_) (Finset.sum_congr rfl fun k _ => ?_)
  · exact congrArg (fun j => Ideal.exp (f j - q)) (Fin.ext (by unfold col; simp [Nat.add_comm]))
  · exact congrArg (fun j => Ideal.exp (f j - q)) (Fin.ext (by unfold col; simp [Nat.add_comm]))

/-- The half of the row with the columns of half `z`. -/
def half (f : Fin 8192 → EReal) (z : ℕ) (hz : z < 2) : Fin 4096 → EReal := fun k => f (col z hz k)

theorem half_finite {f : Fin 8192 → EReal} (h : Finite f) (z : ℕ) (hz : z < 2) : Finite (half f z hz) := fun k => h _

/-- The greatest of the row, from a half and the other half. -/
theorem top_of_halves (f : Fin 8192 → EReal) (z z' : ℕ) (hz : z < 2) (hz' : z' < 2) (hne : z ≠ z') :
    max (top (half f z hz)) (top (half f z' hz')) = top f := by
  rw [top_halves]
  rcases (show (z = 0 ∧ z' = 1) ∨ (z = 1 ∧ z' = 0) by omega) with ⟨rfl, rfl⟩ | ⟨rfl, rfl⟩
  · rfl
  · exact max_comm _ _

theorem tot_of_halves (f : Fin 8192 → EReal) (q : EReal) (z z' : ℕ) (hz : z < 2) (hz' : z' < 2) (hne : z ≠ z') :
    tot (half f z hz) q + tot (half f z' hz') q = tot f q := by
  rw [tot_halves]
  rcases (show (z = 0 ∧ z' = 1) ∨ (z = 1 ∧ z' = 0) by omega) with ⟨rfl, rfl⟩ | ⟨rfl, rfl⟩
  · rfl
  · exact add_comm _ _

/-- The sum of exponentials of the row, from each half's greatest entry and sum. -/
theorem tot_joined {f : Fin 8192 → EReal} (h : Finite f) (z z' : ℕ) (hz : z < 2) (hz' : z' < 2) (hne : z ≠ z') :
    tot (half f z hz) (top (half f z hz)) * Ideal.exp (top (half f z hz) - top f)
      + tot (half f z' hz') (top (half f z' hz')) * Ideal.exp (top (half f z' hz') - top f) = tot f (top f) := by
  obtain ⟨q, hq⟩ := top_real h
  obtain ⟨a, ha⟩ := top_real (half_finite h z hz)
  obtain ⟨b, hb⟩ := top_real (half_finite h z' hz')
  rw [ha, hb, hq, tot_shift (half_finite h z hz), tot_shift (half_finite h z' hz')]
  exact tot_of_halves f q z z' hz hz' hne

/-- The softmax of a row at column `j`. -/
def soft (f : Fin 8192 → EReal) (j : Fin 8192) : EReal := Ideal.div (Ideal.exp (f j - top f)) (tot f (top f))

/-- Times the reciprocal of the sum is divided by the sum. -/
theorem soft_of_recip {f : Fin 8192 → EReal} (h : Finite f) (j : Fin 8192) :
    Ideal.exp (f j - top f) * Ideal.div 1 (tot f (top f)) = soft f j := by
  obtain ⟨q, hq⟩ := top_real h
  unfold soft
  refine Ideal.mul_one_div ?_
  rw [hq]
  exact tot_ne_zero h q

/-- A sum of products of real numbers is real. -/
theorem dot_real {n : ℕ} {a b : Fin n → EReal} (ha : Finite a) (hb : Finite b) : ∃ r : ℝ, ∑ k, a k * b k = r := by
  choose g hg using ha
  choose g' hg' using hb
  refine ⟨∑ k, g k * g' k, ?_⟩
  rw [← coe_total]
  exact Finset.sum_congr rfl fun k _ => by rw [hg, hg', EReal.coe_mul]

end Cert.SoftmaxProof
-- ==== Proof.Reads.lean ====
/-
# The payloads and the reference, entry by entry

What each payload of the kernel body is at an entry, over the extended reals, and what the reference is.
-/
module

public import proofs.«01_k».proof.Proof.RowMath
public import proofs.«01_k».proof.Proof.Gen.KernelIdeal.Skeleton
public import proofs.«01_k».proof.Proof.Gen.ReferenceIdeal
public import Idealize.ShloMosaic.Lib.Pointwise

@[expose] public section

noncomputable section

namespace Cert.SoftmaxProof

open Idealize.ShloMosaic

section Kernel

open Cert.KernelIdeal Cert.KernelIdeal.Gen

theorem word_negInf : Ideal.ofBits .f32 0xFF800000#32 = ⊥ := by
  simp [Ideal.ofBits, Ideal.ieee]

theorem word_inf : Ideal.ofBits .f32 0x7F800000#32 = ⊤ := by
  simp [Ideal.ofBits, Ideal.ieee]

theorem pay1_at (x : FVec Ideal S256x512 .f32) (w : FVec Ideal S512x4096 .f32) (i : Fin 256) (k : Fin 4096) :
    k0_pay1 (F := Ideal) x w (ix2 i k) = ∑ n : Fin 512, x (ix2 i n) * w (ix2 n k) := by
  pointwise [k0_pay1]

theorem pay2_at (v : FVec Ideal S256x896 .f32) : k0_pay2 (F := Ideal) v = v := by
  funext j
  pointwise [k0_pay2]

theorem pay3_at (v : FVec Ideal S256x512 .f32) : k0_pay3 (F := Ideal) v = v := by
  funext j
  pointwise [k0_pay3]

theorem pay4_at (l : FVec Ideal S256x4096 .f32) (i : Fin 256) (o : Fin 1) : k0_pay4 (F := Ideal) l (ix2 i o) = top fun k => l (ix2 i k) := by
  unfold top
  pointwise [k0_pay4]
  rw [word_negInf]

theorem pay5_at (l v : FVec Ideal S256x4096 .f32) (i : Fin 256) (o : Fin 1) :
    k0_pay5 (F := Ideal) l v (ix2 i o) = tot (fun k => v (ix2 i k)) (top fun k => l (ix2 i k)) := by
  unfold top tot
  pointwise [k0_pay5, k0_pay4]
  rw [word_negInf]

theorem pay6_eq (l : FVec Ideal S256x4096 .f32) : k0_pay6 (F := Ideal) l = k0_pay4 (F := Ideal) l := by
  funext j
  pointwise [k0_pay6]

theorem pay7_eq (l v : FVec Ideal S256x4096 .f32) : k0_pay7 (F := Ideal) l v = k0_pay5 (F := Ideal) l v := by
  funext j
  pointwise [k0_pay7]

theorem pay8_at (a b : FVec Ideal S256x1 .f32) (j : S256x1.Idx) : k0_pay8 (F := Ideal) a b j = max (a j) (b j) := by
  pointwise [k0_pay8]

theorem pay9_at (ma sa mb sb : FVec Ideal S256x1 .f32) (j : S256x1.Idx) :
    k0_pay9 (F := Ideal) ma sa mb sb j = Ideal.div 1 (sa j * Ideal.exp (ma j - k0_pay8 (F := Ideal) ma mb j) + sb j * Ideal.exp (mb j - k0_pay8 (F := Ideal) ma mb j)) := by
  pointwise [k0_pay9]

theorem pay10_at (ma sa mb sb : FVec Ideal S256x1 .f32) (v : FVec Ideal S256x4096 .f32) (i : Fin 256) (k : Fin 4096) :
    k0_pay10 (F := Ideal) ma sa mb sb v (ix2 i k) = Ideal.exp (v (ix2 i k) - k0_pay8 (F := Ideal) ma mb (ix2 i 0)) * k0_pay9 (F := Ideal) ma sa mb sb (ix2 i 0) := by
  pointwise [k0_pay10]

theorem pay11_at (a r : FVec Ideal S256x1 .f32) (v : FVec Ideal S256x896 .f32) (i : Fin 256) (k : Fin 896) :
    k0_pay11 (F := Ideal) a r v (ix2 i k) = Ideal.exp (v (ix2 i k) - a (ix2 i 0)) * r (ix2 i 0) := by
  pointwise [k0_pay11]

theorem pay12_at (a r : FVec Ideal S256x1 .f32) (v : FVec Ideal S256x896 .f32) (i : Fin 256) (k : Fin 896) :
    k0_pay12 (F := Ideal) a r v (ix2 i k) = Ideal.exp (v (ix2 i k) - a (ix2 i 0)) * r (ix2 i 0) := by
  pointwise [k0_pay12]

theorem pay13_at (a r : FVec Ideal S256x1 .f32) (v : FVec Ideal S256x896 .f32) (i : Fin 256) (k : Fin 896) :
    k0_pay13 (F := Ideal) a r v (ix2 i k) = Ideal.exp (v (ix2 i k) - a (ix2 i 0)) * r (ix2 i 0) := by
  pointwise [k0_pay13]

theorem pay14_at (a r : FVec Ideal S256x1 .f32) (v : FVec Ideal S256x512 .f32) (i : Fin 256) (k : Fin 512) :
    k0_pay14 (F := Ideal) a r v (ix2 i k) = Ideal.exp (v (ix2 i k) - a (ix2 i 0)) * r (ix2 i 0) := by
  pointwise [k0_pay14]

theorem pay15_at (a r : FVec Ideal S256x1 .f32) (v : FVec Ideal S256x896 .f32) (i : Fin 256) (k : Fin 896) :
    k0_pay15 (F := Ideal) a r v (ix2 i k) = Ideal.exp (v (ix2 i k) - a (ix2 i 0)) * r (ix2 i 0) := by
  pointwise [k0_pay15]

end Kernel

section Reference

open Cert.ReferenceIdeal Cert.ReferenceIdeal.Gen

/-- Row `i` of the logits. -/
def row (x : FVec Ideal S256x512 .f32) (W : FVec Ideal S512x8192 .f32) (i : Fin 256) (j : Fin 8192) : EReal :=
  ∑ n : Fin 512, x (ix2 i n) * W (ix2 n j)

/-- The reference's result, of its two arguments. -/
def refTerm (x : FVec Ideal S256x512 .f32) (W : FVec Ideal S512x8192 .f32) : FVec Ideal S256x8192 .f32 :=
  Host.divf (Host.exp (subf (Host.dotGeneral dot_S256x512_S512x8192_S256x8192_1_0_0_1_n_n none x W) (broadcastInDim S256x8192 ![0, 1] bcast_S256x1_S256x8192_0_1 (broadcastInDim S256x1 ![0] bcast_S256_S256x1_0 (Host.reduce FloatOps.maximumf (Host.dotGeneral dot_S256x512_S512x8192_S256x8192_1_0_0_1_n_n none x W) (constant S_ .f32 0xFF800000#32) reducesTo_S256x8192_S256_d1 h_S_))))) (broadcastInDim S256x8192 ![0, 1] bcast_S256x1_S256x8192_0_1 (broadcastInDim S256x1 ![0] bcast_S256_S256x1_0 (Host.reduceAdd (Host.exp (subf (Host.dotGeneral dot_S256x512_S512x8192_S256x8192_1_0_0_1_n_n none x W) (broadcastInDim S256x8192 ![0, 1] bcast_S256x1_S256x8192_0_1 (broadcastInDim S256x1 ![0] bcast_S256_S256x1_0 (Host.reduce FloatOps.maximumf (Host.dotGeneral dot_S256x512_S512x8192_S256x8192_1_0_0_1_n_n none x W) (constant S_ .f32 0xFF800000#32) reducesTo_S256x8192_S256_d1 h_S_))))) (constant S_ .f32 0x00000000#32) reducesTo_S256x8192_S256_d1 h_S_)))

theorem refTerm_at (x : FVec Ideal S256x512 .f32) (W : FVec Ideal S512x8192 .f32) (i : Fin 256) (j : Fin 8192) :
    refTerm x W (ix2 i j) = soft (row x W i) j := by
  unfold soft top tot row
  pointwise [refTerm]
  rw [word_negInf]

end Reference

end Cert.SoftmaxProof
-- ==== Proof.Value.lean ====
/-
# What a device's result is

Over the extended reals, with every logit a real number, each piece of a device's result is that piece of the softmax.
-/
module

public import proofs.«01_k».proof.Proof.Reads
public import proofs.«01_k».proof.Proof.Cover

@[expose] public section

noncomputable section

namespace Cert.SoftmaxProof

open Cert.KernelIdeal Cert.KernelIdeal.Gen

open Idealize.ShloMosaic

/-- Where a rectangle of columns places its entries. -/
theorem emb_cols {N n : ℕ} {off : Fin 2 → ℕ} (a : ℕ) (ho : off = ![0, a]) (h : ∀ k, off k + (![256, n] : Fin 2 → ℕ) k ≤ (⟨2, ![256, N]⟩ : Shape).size k)
    (i : Fin 256) (k : Fin n) (j : Fin N) (hj : j.val = a + k.val) :
    (Rect.unit (s := ⟨2, ![256, N]⟩) off ![256, n] h).emb (ix2 i k) = ix2 i j := by
  subst ho
  funext b
  match b with
  | ⟨0, _⟩ => exact Fin.ext ((Rect.emb_apply _ _ _).trans (show 0 + 1 * i.val = i.val by omega))
  | ⟨1, _⟩ => exact Fin.ext ((Rect.emb_apply _ _ _).trans (show a + 1 * k.val = j.val by omega))

/-! ## The neighbours' coordinates -/

theorem zp_coords (c : Dev nD) : (zp c).val % 2 = 1 - c.val % 2 ∧ (zp c).val / 4 = c.val / 4 ∧ (zp c).val / 2 % 2 = c.val / 2 % 2 := by
  revert c; decide
theorem xn_coords (c : Dev nD) : (xn c).val % 2 = c.val % 2 ∧ (xn c).val / 4 = 1 - c.val / 4 ∧ (xn c).val / 2 % 2 = c.val / 2 % 2 := by
  revert c; decide
theorem yn_coords (c : Dev nD) : (yn c).val % 2 = c.val % 2 ∧ (yn c).val / 4 = c.val / 4 ∧ (yn c).val / 2 % 2 = 1 - c.val / 2 % 2 := by
  revert c; decide

theorem mod_two (c : Dev nD) : c.val % 2 < 2 := Nat.mod_lt _ (by decide)

/-! ## The pieces -/

variable {xs : Dev nD → S256x512.Idx → Elt Ideal .f32} {ws : Dev nD → S512x4096.Idx → Elt Ideal .f32}
variable {x : FVec Ideal ⟨2, ![256, 512]⟩ .f32} {W : FVec Ideal ⟨2, ![512, 8192]⟩ .f32}

/-- The devices hold the first operand whole, and of the second the half their place on the last mesh axis says. -/
structure Holds (xs : Dev nD → S256x512.Idx → Elt Ideal .f32) (ws : Dev nD → S512x4096.Idx → Elt Ideal .f32)
    (x : FVec Ideal ⟨2, ![256, 512]⟩ .f32) (W : FVec Ideal ⟨2, ![512, 8192]⟩ .f32) : Prop where
  lhs : ∀ c, xs c = x
  rhs : ∀ (c : Dev nD) (n : Fin 512) (k : Fin 4096), ws c (ix2 n k) = W (ix2 n (col (c.val % 2) (mod_two c) k))
  real : ∀ i, Finite (row x W i)

variable (H : Holds xs ws x W)

include H

theorem lg_at (c : Dev nD) (i : Fin 256) (k : Fin 4096) :
    lg (F := Ideal) xs ws c (ix2 i k) = row x W i (col (c.val % 2) (mod_two c) k) := by
  unfold lg row
  rw [pay1_at, H.lhs]
  exact Finset.sum_congr rfl fun n _ => congrArg (x (ix2 i n) * ·) (H.rhs c n k)

theorem lg_half (c : Dev nD) (i : Fin 256) : (fun k => lg (F := Ideal) xs ws c (ix2 i k)) = half (row x W i) (c.val % 2) (mod_two c) :=
  funext fun k => lg_at H c i k

theorem max_at (c : Dev nD) (i : Fin 256) : k0_pay4 (F := Ideal) (lg xs ws c) (ix2 i 0) = top (half (row x W i) (c.val % 2) (mod_two c)) := by
  rw [pay4_at, lg_half H]

theorem sum_at (c : Dev nD) (i : Fin 256) : k0_pay5 (F := Ideal) (lg xs ws c) (lg xs ws c) (ix2 i 0)
    = tot (half (row x W i) (c.val % 2) (mod_two c)) (top (half (row x W i) (c.val % 2) (mod_two c))) := by
  rw [pay5_at, lg_half H]

theorem half_ne (c : Dev nD) : c.val % 2 ≠ (zp c).val % 2 := by have := zp_coords c; omega

theorem mAll_at (c : Dev nD) (i : Fin 256) : mAll (F := Ideal) xs ws c (ix2 i 0) = top (row x W i) := by
  unfold mAll mx
  rw [pay6_eq, pay8_at, max_at H, max_at H]
  exact top_of_halves _ _ _ _ _ (half_ne H c)

theorem sAll_at (c : Dev nD) (i : Fin 256) :
    sAll (F := Ideal) xs ws c (ix2 i 0) = Ideal.div 1 (tot (row x W i) (top (row x W i))) := by
  have e := mAll_at H c i
  unfold mAll at e
  unfold sAll
  rw [pay9_at, e]
  unfold mx sm
  rw [pay6_eq, pay7_eq, max_at H, max_at H, sum_at H, sum_at H]
  exact congrArg _ (tot_joined (H.real i) _ _ _ _ (half_ne H c))

/-- A logit, scaled with the row's greatest and sum, is the softmax there. -/
theorem scaled (c : Dev nD) (i : Fin 256) (j : Fin 8192) {v : EReal} (hv : v = row x W i j) :
    Ideal.exp (v - mAll (F := Ideal) xs ws c (ix2 i 0)) * sAll (F := Ideal) xs ws c (ix2 i 0) = refTerm x W (ix2 i j) := by
  rw [hv, mAll_at H, sAll_at H, refTerm_at]
  exact soft_of_recip (H.real i) j

theorem us_at (c : Dev nD) (i : Fin 256) (k : Fin 896) (j : Fin 8192)
    (hj : j.val = 4096 * (c.val % 2) + (1792 * (c.val / 4) + 896 * (c.val / 2 % 2) + 512 + k.val)) :
    us (F := Ideal) xs ws c (ix2 i k) = row x W i j := by
  have hc : c.val < 8 := c.isLt
  unfold us
  rw [pay2_at, emb_cols (N := 4096) _ (k0_off1_eq c) (k0_off1_inb c) i k
    ⟨1792 * (c.val / 4) + 896 * (c.val / 2 % 2) + 512 + k.val, by have := k.isLt; omega⟩ rfl, lg_at H]
  exact congrArg _ (Fin.ext hj.symm)

theorem rs_at (c : Dev nD) (i : Fin 256) (k : Fin 512) (j : Fin 8192) (hj : j.val = 4096 * (c.val % 2) + k.val) :
    rs (F := Ideal) xs ws c (ix2 i k) = row x W i j := by
  unfold rs
  rw [pay3_at, emb_cols (N := 4096) 0 rfl inb_S256x4096_S256x512_0_0 i k ⟨k.val, by have := k.isLt; omega⟩ (Nat.zero_add _).symm, lg_at H]
  exact congrArg _ (Fin.ext hj.symm)

theorem p2_at (c : Dev nD) (i : S256x4096.Idx) : p2 (F := Ideal) xs ws c i = refTerm x W ((o2 c).emb i) := by
  rw [eq_ix2 i, emb_cols _ (k0_off2_eq c) (k0_off2_inb c) (i 0) (i 1) (col (c.val % 2) (mod_two c) (i 1)) rfl]
  exact (pay10_at _ _ _ _ _ _ _).trans (scaled H c _ _ (lg_at H c _ _))

theorem p3_at (c : Dev nD) (i : S256x896.Idx) : p3 (F := Ideal) xs ws c i = refTerm x W ((o3 c).emb i) := by
  have hc : c.val < 8 := c.isLt
  have hi : (i 1).val < 896 := (i 1).isLt
  have hz := zp_coords c
  rw [eq_ix2 i, emb_cols _ (k0_off3_eq c) (k0_off3_inb c) (i 0) (i 1) ⟨_, by omega⟩ rfl]
  exact (pay11_at _ _ _ _ _).trans (scaled H c _ _ (us_at H _ _ _ _ (by rw [hz.1, hz.2.1, hz.2.2]; dsimp only; omega)))

theorem p4_at (c : Dev nD) (i : S256x896.Idx) : p4 (F := Ideal) xs ws c i = refTerm x W ((o4 c).emb i) := by
  have hc : c.val < 8 := c.isLt
  have hi : (i 1).val < 896 := (i 1).isLt
  have hz := zp_coords (xn c)
  have hx := xn_coords c
  rw [eq_ix2 i, emb_cols _ (k0_off4_eq c) (k0_off4_inb c) (i 0) (i 1) ⟨_, by omega⟩ rfl]
  exact (pay12_at _ _ _ _ _).trans (scaled H c _ _ (us_at H _ _ _ _ (by rw [hz.1, hz.2.1, hz.2.2, hx.1, hx.2.1, hx.2.2]; dsimp only; omega)))

theorem p5_at (c : Dev nD) (i : S256x896.Idx) : p5 (F := Ideal) xs ws c i = refTerm x W ((o5 c).emb i) := by
  have hc : c.val < 8 := c.isLt
  have hi : (i 1).val < 896 := (i 1).isLt
  have hz := zp_coords (yn c)
  have hy := yn_coords c
  rw [eq_ix2 i, emb_cols _ (k0_off5_eq c) (k0_off5_inb c) (i 0) (i 1) ⟨_, by omega⟩ rfl]
  exact (pay13_at _ _ _ _ _).trans (scaled H c _ _ (us_at H _ _ _ _ (by rw [hz.1, hz.2.1, hz.2.2, hy.1, hy.2.1, hy.2.2]; dsimp only; omega)))

theorem p6_at (c : Dev nD) (i : S256x512.Idx) : p6 (F := Ideal) xs ws c i = refTerm x W ((o6 c).emb i) := by
  have hi : (i 1).val < 512 := (i 1).isLt
  have hz := zp_coords c
  rw [eq_ix2 i, emb_cols _ (k0_off6_eq c) (k0_off6_inb c) (i 0) (i 1) ⟨_, by omega⟩ rfl]
  exact (pay14_at _ _ _ _ _).trans (scaled H c _ _ (rs_at H _ _ _ _ (by rw [hz.1]; dsimp only; omega)))

theorem p7_at (c : Dev nD) (i : S256x896.Idx) : p7 (F := Ideal) xs ws c i = refTerm x W ((o7 c).emb i) := by
  have hc : c.val < 8 := c.isLt
  have hi : (i 1).val < 896 := (i 1).isLt
  have hz := zp_coords (yn (xn c))
  have hy := yn_coords (xn c)
  have hx := xn_coords c
  rw [eq_ix2 i, emb_cols _ (k0_off7_eq c) (k0_off7_inb c) (i 0) (i 1) ⟨_, by omega⟩ rfl]
  exact (pay15_at _ _ _ _ _).trans (scaled H c _ _ (us_at H _ _ _ _ (by
    rw [hz.1, hz.2.1, hz.2.2, hy.1, hy.2.1, hy.2.2, hx.1, hx.2.1, hx.2.2]; dsimp only; omega)))

/-- A device's result is the reference's. -/
theorem Out_eq (c : Dev nD) : Out (F := Ideal) xs ws c = refTerm x W :=
  (out7_eq_Out xs ws c (refTerm x W)).symm.trans
    (out7_fill xs ws c (refTerm x W) (refTerm x W) (p2_at H c) (p3_at H c) (p4_at H c) (p5_at H c) (p6_at H c) (p7_at H c))

end Cert.SoftmaxProof
-- ==== Proof.Algebra.lean ====
/-
# The kernel computes the softmax

Over the extended reals, on finite operands, every device ends with the whole softmax the reference computes.
-/
module

public import proofs.«01_k».proof.Proof.Value
public import proofs.«01_k».proof.Proof.Run
public import proofs.«01_k».proof.Proof.Gen.ReferenceIdeal.Run
public import proofs.«01_k».proof.Defs

@[expose] public section

noncomputable section

namespace Cert.SoftmaxProof

open Idealize.ShloMosaic Idealize.ShloMosaic.TcCoe Idealize.SL.Sem

section Contents

open Cert.KernelIdeal Cert.KernelIdeal.Gen

variable {F : FTy → Type} [FloatOps F]
variable (m : (ℓ : Loc nD τ sig) → Buf (Elt F) ℓ) (ρ : Dev nD → PrngReg)

/-- What the pipeline stages of an operand is the operand. -/
theorem xst_eq (c : Dev nD) : xst m c = m ((c : Thread nD τ).loc main_arg0) := by
  unfold xst
  exact Memref.read_access_unit_zero (Elt F) main_arg0 (by decide +kernel) _ _

theorem wst_eq (c : Dev nD) : wst m c = m ((c : Thread nD τ).loc main_arg1) := by
  unfold wst
  exact Memref.read_access_unit_zero (Elt F) main_arg1 (by decide +kernel) _ _

/-- The block written back is the whole result array. -/
theorem read_result (G : S256x8192.Idx → Elt F .f32) : (win0_2.blk (0 : Fin 1)).view.read (Elt F) G = G :=
  Memref.read_access_unit_zero (Elt F) main_v1 (by decide +kernel) _ _

theorem flushed_res (c : Dev nD) (t : Fin cfg0.N) :
    (dats m ρ 0 c).flushed (2 : Fin 3) t = ((cfg0.win (2 : Fin 3)).blk t).view.read (Elt F) (res m c) := by
  obtain rfl := fin_N0 t
  have e := read_result (res m c)
  unfold Pipeline.Dat.flushed
  rw [after_o]
  exact e.symm

theorem result_covered (i : S256x8192.Idx) : ∃ t : Fin cfg0.N, (cfg0.win (2 : Fin 3)).flush t = true ∧ i ∈ ((cfg0.win (2 : Fin 3)).blk t).view.set := by
  refine ⟨t0_0, flush0_2 _, ?_⟩
  show i ∈ ((View.whole main_v1).slice (win0_2.rect t0_0)).set
  rw [View.set_slice_whole, Rect.mem_set_unit]
  have e : ∀ a : Fin 2, win0_2.index t0_0 a * win0_2.size a = 0 ∧ win0_2.xsize (grid0.coords t0_0) a = S256x8192.size a := by decide +kernel
  intro a
  have ha := (i a).isLt
  have ea := e a
  show win0_2.index t0_0 a * win0_2.size a ≤ (i a).val ∧ (i a).val < win0_2.index t0_0 a * win0_2.size a + win0_2.xsize (grid0.coords t0_0) a
  rw [ea.1, ea.2]
  exact ⟨Nat.zero_le _, by rw [Nat.zero_add]; exact ha⟩

theorem finalA_o (c : Dev nD) : finalA m ρ c (2 : Fin 3) = res m c :=
  (dats m ρ 0 c).arrAt_eq_of_cover (2 : Fin 3) (res m c) (fun t _ => flushed_res m ρ c t) result_covered

end Contents

/-! ## Finite operands -/

/-- An extended real whose absolute value is less than infinity is real. -/
theorem real_of_word {v : EReal} (h : Ideal.cmp .olt (max v (-v)) ⊤ = 1#1) : ∃ r : ℝ, v = r := by
  induction v using EReal.rec with
  | bot => exact absurd h (by simp [Ideal.cmp])
  | top => exact absurd h (by simp [Ideal.cmp])
  | coe r => exact ⟨r, rfl⟩

section Finite

variable [Cert.Pre_finite_KernelIdeal.Facts]

theorem lhs_real (x : FVec Ideal ⟨2, ![256, 512]⟩ .f32) (w : FVec Ideal ⟨2, ![512, 4096]⟩ .f32)
    (h : (Cert.Pre_finite_KernelIdeal.fn (F := Ideal) x w).1 = fun _ => 1#1) (j) : ∃ r : ℝ, x j = r := by
  refine real_of_word (v := x j) ?_
  rw [← word_inf]
  exact congrFun h j

theorem rhs_real (x : FVec Ideal ⟨2, ![256, 512]⟩ .f32) (w : FVec Ideal ⟨2, ![512, 4096]⟩ .f32)
    (h : (Cert.Pre_finite_KernelIdeal.fn (F := Ideal) x w).2 = fun _ => 1#1) (j) : ∃ r : ℝ, w j = r := by
  refine real_of_word (v := w j) ?_
  rw [← word_inf]
  exact congrFun h j

end Finite

section Claim

open Cert.KernelIdeal Cert.KernelIdeal.Gen

/-- Which block of the second operand a device holds. -/
theorem block_1 : ∀ c : Dev nD, Layout.meshLin [2, 2, 2] c.val [2] = c.val % 2 := by decide

/-- Where column `k` of a device's half of the second operand lies in the whole. -/
theorem block_at (W : FVec Ideal ⟨2, ![512, 8192]⟩ .f32) (c : Dev nD) (n : Fin 512) (k : Fin 4096) :
    Layout.blockN ⟨2, ![512, 4096]⟩ ⟨2, ![512, 8192]⟩ (Layout.meshBlock [2, 2, 2] ![[], [2]] c) W (by decide) (ix2 n k)
      = W (ix2 n (col (c.val % 2) (mod_two c) k)) := by
  rw [Layout.blockN_apply]
  refine congrArg W (funext fun b => ?_)
  match b with
  | ⟨0, _⟩ => exact Fin.ext (show 0 * 512 + n.val = n.val by omega)
  | ⟨1, _⟩ => exact Fin.ext (show Layout.meshLin [2, 2, 2] c.val [2] * 4096 + k.val = 4096 * (c.val % 2) + k.val by rw [block_1]; omega)

variable [Cert.Pre_finite_KernelIdeal.Facts]

/-- On finite operands the kernel and the reference end with the same array. -/
theorem algebraic : Cert.algebraic_KernelIdeal_ReferenceIdeal_pre_finite_KernelIdeal := by
  intro m g m' g' hpre hargs
  have H : Holds (xst m) (wst m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) := by
    have hr : ∀ (c : Dev nD) (n : Fin 512) (k : Fin 4096), wst m c (ix2 n k)
        = m' (((0 : Dev Cert.ReferenceIdeal.nD).tc : Thread Cert.ReferenceIdeal.nD Cert.ReferenceIdeal.τ).loc Cert.ReferenceIdeal.main_arg1)
            (ix2 n (col (c.val % 2) (mod_two c) k)) := fun c n k =>
      (congrFun ((wst_eq m c).trans (hargs c).2) _).trans (block_at _ c n k)
    refine ⟨fun c => (xst_eq m c).trans (hargs c).1, hr, fun i j => dot_real (fun n => ?_) fun n => ?_⟩
    · obtain ⟨r, e⟩ := lhs_real _ _ (hpre 0).1 (ix2 i n)
      exact ⟨r, (congrFun (hargs 0).1.symm _).trans e⟩
    · rcases col_surj j with ⟨k, rfl⟩ | ⟨k, rfl⟩
      · obtain ⟨r, e⟩ := rhs_real _ _ (hpre 0).2 (ix2 n k)
        exact ⟨r, (hr 0 n k).symm.trans ((congrFun (wst_eq m 0) _).trans e)⟩
      · obtain ⟨r, e⟩ := rhs_real _ _ (hpre 1).2 (ix2 n k)
        exact ⟨r, (hr 1 n k).symm.trans ((congrFun (wst_eq m 1) _).trans e)⟩
  refine ⟨refTerm (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run defs _ _).mono (fun r h c => ⟨(h.1 c 2).trans ((finalA_o m g c).trans (Out_eq H c)),
      (h.1 c 0).trans (finalA_x m g c), (h.1 c 1).trans (finalA_w m g c)⟩) (run_main (F := Ideal) m g)
  · exact (θ_run Cert.ReferenceIdeal.defs _ _).mono (fun r h => h 0) (Cert.ReferenceIdeal.Value.run m' g')

end Claim

end Cert.SoftmaxProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := by
  have hK : Cert.Pre_finite_KernelIdeal.Facts := ⟨by decide, by decide⟩
  have hR : Cert.Pre_finite_ReferenceIdeal.Facts := ⟨by decide, by decide⟩
  exact ⟨Cert.Kernel.Gen.facts, Cert.KernelIdeal.Gen.facts, Cert.ReferenceIdeal.Gen.facts, hK, hR,
    Cert.SoftmaxProof.frame_kernel, Cert.SoftmaxProof.frame_kernelIdeal, Cert.SoftmaxProof.frame_kernelIdeal_finite,
    Cert.SoftmaxProof.frame_reference, Cert.SoftmaxProof.frame_reference_finite, trivial, Cert.SoftmaxProof.algebraic⟩

end Cert.Proof

end
